-- ==== Defs.lean ====
def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InprojA (m : (ℓ : Loc Cert.InprojA.nD Cert.InprojA.τ Cert.InprojA.sig) → Buf (Elt Bits) ℓ) : Prop :=
  True

def Pre_InprojAIdeal (m : (ℓ : Loc Cert.InprojAIdeal.nD Cert.InprojAIdeal.τ Cert.InprojAIdeal.sig) → Buf (Elt Ideal) ℓ) : Prop :=
  True

def Pre_InprojARefIdeal (m : (ℓ : Loc Cert.InprojARefIdeal.nD Cert.InprojARefIdeal.τ Cert.InprojARefIdeal.sig) → Buf (Elt Ideal) ℓ) : Prop :=
  True

def Pre_InprojB (m : (ℓ : Loc Cert.InprojB.nD Cert.InprojB.τ Cert.InprojB.sig) → Buf (Elt Bits) ℓ) : Prop :=
  True

def Pre_InprojBIdeal (m : (ℓ : Loc Cert.InprojBIdeal.nD Cert.InprojBIdeal.τ Cert.InprojBIdeal.sig) → Buf (Elt Ideal) ℓ) : Prop :=
  True

def Pre_InprojBRefIdeal (m : (ℓ : Loc Cert.InprojBRefIdeal.nD Cert.InprojBRefIdeal.τ Cert.InprojBRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressIdeal_finite [hPre_finite : Cert.Pre_finite.Facts] (m : (ℓ : Loc Cert.CompressIdeal.nD Cert.CompressIdeal.τ Cert.CompressIdeal.sig) → Buf (Elt Ideal) ℓ) : Prop :=
  ∀ c : Dev Cert.CompressIdeal.nD,
    (Cert.Pre_finite.fn (F := Ideal) (m ((c.tc : Thread Cert.CompressIdeal.nD Cert.CompressIdeal.τ).loc Cert.CompressIdeal.main_arg0)) (m ((c.tc : Thread Cert.CompressIdeal.nD Cert.CompressIdeal.τ).loc Cert.CompressIdeal.main_arg1)) (m ((c.tc : Thread Cert.CompressIdeal.nD Cert.CompressIdeal.τ).loc Cert.CompressIdeal.main_arg2)) (m ((c.tc : Thread Cert.CompressIdeal.nD Cert.CompressIdeal.τ).loc Cert.CompressIdeal.main_arg3)) (m ((c.tc : Thread Cert.CompressIdeal.nD Cert.CompressIdeal.τ).loc Cert.CompressIdeal.main_arg4)) (m ((c.tc : Thread Cert.CompressIdeal.nD Cert.CompressIdeal.τ).loc Cert.CompressIdeal.main_arg5)) (m ((c.tc : Thread Cert.CompressIdeal.nD Cert.CompressIdeal.τ).loc Cert.CompressIdeal.main_arg6))) = (fun _ => 1#1)

def Pre_CompressRefIdeal (m : (ℓ : Loc Cert.CompressRefIdeal.nD Cert.CompressRefIdeal.τ Cert.CompressRefIdeal.sig) → Buf (Elt Ideal) ℓ) : Prop :=
  True

def Pre_CompressRefIdeal_finite [hPre_finite : Cert.Pre_finite.Facts] (m : (ℓ : Loc Cert.CompressRefIdeal.nD Cert.CompressRefIdeal.τ Cert.CompressRefIdeal.sig) → Buf (Elt Ideal) ℓ) : Prop :=
  ∀ c : Dev Cert.CompressRefIdeal.nD,
    (Cert.Pre_finite.fn (F := Ideal) (m ((c.tc : Thread Cert.CompressRefIdeal.nD Cert.CompressRefIdeal.τ).loc Cert.CompressRefIdeal.main_arg0)) (m ((c.tc : Thread Cert.CompressRefIdeal.nD Cert.CompressRefIdeal.τ).loc Cert.CompressRefIdeal.main_arg1)) (m ((c.tc : Thread Cert.CompressRefIdeal.nD Cert.CompressRefIdeal.τ).loc Cert.CompressRefIdeal.main_arg2)) (m ((c.tc : Thread Cert.CompressRefIdeal.nD Cert.CompressRefIdeal.τ).loc Cert.CompressRefIdeal.main_arg3)) (m ((c.tc : Thread Cert.CompressRefIdeal.nD Cert.CompressRefIdeal.τ).loc Cert.CompressRefIdeal.main_arg4)) (m ((c.tc : Thread Cert.CompressRefIdeal.nD Cert.CompressRefIdeal.τ).loc Cert.CompressRefIdeal.main_arg5)) (m ((c.tc : Thread Cert.CompressRefIdeal.nD Cert.CompressRefIdeal.τ).loc Cert.CompressRefIdeal.main_arg6))) = (fun _ => 1#1)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_InprojA [hInprojA : Cert.InprojA.Facts] : Prop :=
  ∀ (m : (ℓ : Loc Cert.InprojA.nD Cert.InprojA.τ Cert.InprojA.sig) → Buf (Elt Bits) ℓ) (g : Dev Cert.InprojA.nD → PrngReg), Pre_InprojA m →
    θ_run (Cert.InprojA.defs (F := Bits)) (onTc (τ := Cert.InprojA.τ) (Cert.InprojA.main (F := Bits))) ⟨m, fun _ => 0, g⟩ (fun r => (∀ c : Dev Cert.InprojA.nD,
      r.2.mem ((c.tc : Thread Cert.InprojA.nD Cert.InprojA.τ).loc Cert.InprojA.main_arg0) = m ((c.tc : Thread Cert.InprojA.nD Cert.InprojA.τ).loc Cert.InprojA.main_arg0)
      ∧ r.2.mem ((c.tc : Thread Cert.InprojA.nD Cert.InprojA.τ).loc Cert.InprojA.main_arg1) = m ((c.tc : Thread Cert.InprojA.nD Cert.InprojA.τ).loc Cert.InprojA.main_arg1)
      ∧ r.2.mem ((c.tc : Thread Cert.InprojA.nD Cert.InprojA.τ).loc Cert.InprojA.main_arg2) = m ((c.tc : Thread Cert.InprojA.nD Cert.InprojA.τ).loc Cert.InprojA.main_arg2))
      ∧ r.2.sem = fun _ => 0)

def quiescent_InprojAIdeal [hInprojAIdeal : Cert.InprojAIdeal.Facts] : Prop :=
  ∀ (m : (ℓ : Loc Cert.InprojAIdeal.nD Cert.InprojAIdeal.τ Cert.InprojAIdeal.sig) → Buf (Elt Ideal) ℓ) (g : Dev Cert.InprojAIdeal.nD → PrngReg), Pre_InprojAIdeal m →
    θ_run (Cert.InprojAIdeal.defs (F := Ideal)) (onTc (τ := Cert.InprojAIdeal.τ) (Cert.InprojAIdeal.main (F := Ideal))) ⟨m, fun _ => 0, g⟩ (fun r => (∀ c : Dev Cert.InprojAIdeal.nD,
      r.2.mem ((c.tc : Thread Cert.InprojAIdeal.nD Cert.InprojAIdeal.τ).loc Cert.InprojAIdeal.main_arg0) = m ((c.tc : Thread Cert.InprojAIdeal.nD Cert.InprojAIdeal.τ).loc Cert.InprojAIdeal.main_arg0)
      ∧ r.2.mem ((c.tc : Thread Cert.InprojAIdeal.nD Cert.InprojAIdeal.τ).loc Cert.InprojAIdeal.main_arg1) = m ((c.tc : Thread Cert.InprojAIdeal.nD Cert.InprojAIdeal.τ).loc Cert.InprojAIdeal.main_arg1)
      ∧ r.2.mem ((c.tc : Thread Cert.InprojAIdeal.nD Cert.InprojAIdeal.τ).loc Cert.InprojAIdeal.main_arg2) = m ((c.tc : Thread Cert.InprojAIdeal.nD Cert.InprojAIdeal.τ).loc Cert.InprojAIdeal.main_arg2))
      ∧ r.2.sem = fun _ => 0)

def quiescent_InprojARefIdeal [hInprojARefIdeal : Cert.InprojARefIdeal.Facts] : Prop :=
  ∀ (m : (ℓ : Loc Cert.InprojARefIdeal.nD Cert.InprojARefIdeal.τ Cert.InprojARefIdeal.sig) → Buf (Elt Ideal) ℓ) (g : Dev Cert.InprojARefIdeal.nD → PrngReg), Pre_InprojARefIdeal m →
    θ_run (Cert.InprojARefIdeal.defs (F := Ideal)) (onTc (τ := Cert.InprojARefIdeal.τ) (Cert.InprojARefIdeal.main (F := Ideal))) ⟨m, fun _ => 0, g⟩ (fun r => (∀ c : Dev Cert.InprojARefIdeal.nD,
      r.2.mem ((c.tc : Thread Cert.InprojARefIdeal.nD Cert.InprojARefIdeal.τ).loc Cert.InprojARefIdeal.main_arg0) = m ((c.tc : Thread Cert.InprojARefIdeal.nD Cert.InprojARefIdeal.τ).loc Cert.InprojARefIdeal.main_arg0)
      ∧ r.2.mem ((c.tc : Thread Cert.InprojARefIdeal.nD Cert.InprojARefIdeal.τ).loc Cert.InprojARefIdeal.main_arg1) = m ((c.tc : Thread Cert.InprojARefIdeal.nD Cert.InprojARefIdeal.τ).loc Cert.InprojARefIdeal.main_arg1)
      ∧ r.2.mem ((c.tc : Thread Cert.InprojARefIdeal.nD Cert.InprojARefIdeal.τ).loc Cert.InprojARefIdeal.main_arg2) = m ((c.tc : Thread Cert.InprojARefIdeal.nD Cert.InprojARefIdeal.τ).loc Cert.InprojARefIdeal.main_arg2))
      ∧ r.2.sem = fun _ => 0)

def quiescent_InprojB [hInprojB : Cert.InprojB.Facts] : Prop :=
  ∀ (m : (ℓ : Loc Cert.InprojB.nD Cert.InprojB.τ Cert.InprojB.sig) → Buf (Elt Bits) ℓ) (g : Dev Cert.InprojB.nD → PrngReg), Pre_InprojB m →
    θ_run (Cert.InprojB.defs (F := Bits)) (onTc (τ := Cert.InprojB.τ) (Cert.InprojB.main (F := Bits))) ⟨m, fun _ => 0, g⟩ (fun r => (∀ c : Dev Cert.InprojB.nD,
      r.2.mem ((c.tc : Thread Cert.InprojB.nD Cert.InprojB.τ).loc Cert.InprojB.main_arg0) = m ((c.tc : Thread Cert.InprojB.nD Cert.InprojB.τ).loc Cert.InprojB.main_arg0)
      ∧ r.2.mem ((c.tc : Thread Cert.InprojB.nD Cert.InprojB.τ).loc Cert.InprojB.main_arg1) = m ((c.tc : Thread Cert.InprojB.nD Cert.InprojB.τ).loc Cert.InprojB.main_arg1)
      ∧ r.2.mem ((c.tc : Thread Cert.InprojB.nD Cert.InprojB.τ).loc Cert.InprojB.main_arg2) = m ((c.tc : Thread Cert.InprojB.nD Cert.InprojB.τ).loc Cert.InprojB.main_arg2))
      ∧ r.2.sem = fun _ => 0)

def quiescent_InprojBIdeal [hInprojBIdeal : Cert.InprojBIdeal.Facts] : Prop :=
  ∀ (m : (ℓ : Loc Cert.InprojBIdeal.nD Cert.InprojBIdeal.τ Cert.InprojBIdeal.sig) → Buf (Elt Ideal) ℓ) (g : Dev Cert.InprojBIdeal.nD → PrngReg), Pre_InprojBIdeal m →
    θ_run (Cert.InprojBIdeal.defs (F := Ideal)) (onTc (τ := Cert.InprojBIdeal.τ) (Cert.InprojBIdeal.main (F := Ideal))) ⟨m, fun _ => 0, g⟩ (fun r => (∀ c : Dev Cert.InprojBIdeal.nD,
      r.2.mem ((c.tc : Thread Cert.InprojBIdeal.nD Cert.InprojBIdeal.τ).loc Cert.InprojBIdeal.main_arg0) = m ((c.tc : Thread Cert.InprojBIdeal.nD Cert.InprojBIdeal.τ).loc Cert.InprojBIdeal.main_arg0)
      ∧ r.2.mem ((c.tc : Thread Cert.InprojBIdeal.nD Cert.InprojBIdeal.τ).loc Cert.InprojBIdeal.main_arg1) = m ((c.tc : Thread Cert.InprojBIdeal.nD Cert.InprojBIdeal.τ).loc Cert.InprojBIdeal.main_arg1)
      ∧ r.2.mem ((c.tc : Thread Cert.InprojBIdeal.nD Cert.InprojBIdeal.τ).loc Cert.InprojBIdeal.main_arg2) = m ((c.tc : Thread Cert.InprojBIdeal.nD Cert.InprojBIdeal.τ).loc Cert.InprojBIdeal.main_arg2))
      ∧ r.2.sem = fun _ => 0)

def quiescent_InprojBRefIdeal [hInprojBRefIdeal : Cert.InprojBRefIdeal.Facts] : Prop :=
  ∀ (m : (ℓ : Loc Cert.InprojBRefIdeal.nD Cert.InprojBRefIdeal.τ Cert.InprojBRefIdeal.sig) → Buf (Elt Ideal) ℓ) (g : Dev Cert.InprojBRefIdeal.nD → PrngReg), Pre_InprojBRefIdeal m →
    θ_run (Cert.InprojBRefIdeal.defs (F := Ideal)) (onTc (τ := Cert.InprojBRefIdeal.τ) (Cert.InprojBRefIdeal.main (F := Ideal))) ⟨m, fun _ => 0, g⟩ (fun r => (∀ c : Dev Cert.InprojBRefIdeal.nD,
      r.2.mem ((c.tc : Thread Cert.InprojBRefIdeal.nD Cert.InprojBRefIdeal.τ).loc Cert.InprojBRefIdeal.main_arg0) = m ((c.tc : Thread Cert.InprojBRefIdeal.nD Cert.InprojBRefIdeal.τ).loc Cert.InprojBRefIdeal.main_arg0)
      ∧ r.2.mem ((c.tc : Thread Cert.InprojBRefIdeal.nD Cert.InprojBRefIdeal.τ).loc Cert.InprojBRefIdeal.main_arg1) = m ((c.tc : Thread Cert.InprojBRefIdeal.nD Cert.InprojBRefIdeal.τ).loc Cert.InprojBRefIdeal.main_arg1)
      ∧ r.2.mem ((c.tc : Thread Cert.InprojBRefIdeal.nD Cert.InprojBRefIdeal.τ).loc Cert.InprojBRefIdeal.main_arg2) = m ((c.tc : Thread Cert.InprojBRefIdeal.nD Cert.InprojBRefIdeal.τ).loc Cert.InprojBRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ r.2.sem = fun _ => 0)

def quiescent_CompressIdeal_pre_finite [hCompressIdeal : Cert.CompressIdeal.Facts] [hPre_finite : Cert.Pre_finite.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal_finite m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6))
      ∧ r.2.sem = fun _ => 0)

def quiescent_CompressRefIdeal_pre_finite [hCompressRefIdeal : Cert.CompressRefIdeal.Facts] [hPre_finite : Cert.Pre_finite.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal_finite m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6))
      ∧ r.2.sem = fun _ => 0)

def preserves_Mlstm_MlstmIdeal : Prop :=
  IdealRules.named_const.Statement Cert.MlstmIdeal.κ "mask" .f32 0xF149F2CA#32 ⊥

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v33) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_InprojA_InprojAIdeal : Prop :=
  True

def algebraic_InprojAIdeal_InprojARefIdeal [hInprojAIdeal : Cert.InprojAIdeal.Facts] [hInprojARefIdeal : Cert.InprojARefIdeal.Facts] : Prop :=
  ∀ (m : (ℓ : Loc Cert.InprojAIdeal.nD Cert.InprojAIdeal.τ Cert.InprojAIdeal.sig) → Buf (Elt Ideal) ℓ) (g : Dev Cert.InprojAIdeal.nD → PrngReg)
    (m' : (ℓ : Loc Cert.InprojARefIdeal.nD Cert.InprojARefIdeal.τ Cert.InprojARefIdeal.sig) → Buf (Elt Ideal) ℓ) (g' : Dev Cert.InprojARefIdeal.nD → PrngReg), Pre_InprojAIdeal m →
    (∀ c : Dev Cert.InprojAIdeal.nD,
      m' ((c.tc : Thread Cert.InprojARefIdeal.nD Cert.InprojARefIdeal.τ).loc Cert.InprojARefIdeal.main_arg0) = m ((c.tc : Thread Cert.InprojAIdeal.nD Cert.InprojAIdeal.τ).loc Cert.InprojAIdeal.main_arg0)
      ∧ m' ((c.tc : Thread Cert.InprojARefIdeal.nD Cert.InprojARefIdeal.τ).loc Cert.InprojARefIdeal.main_arg1) = m ((c.tc : Thread Cert.InprojAIdeal.nD Cert.InprojAIdeal.τ).loc Cert.InprojAIdeal.main_arg1)
      ∧ m' ((c.tc : Thread Cert.InprojARefIdeal.nD Cert.InprojARefIdeal.τ).loc Cert.InprojARefIdeal.main_arg2) = m ((c.tc : Thread Cert.InprojAIdeal.nD Cert.InprojAIdeal.τ).loc Cert.InprojAIdeal.main_arg2)) →
    ∃ (v0 : (c : Dev Cert.InprojAIdeal.nD) → Buf (Elt Ideal) ((c.tc : Thread Cert.InprojAIdeal.nD Cert.InprojAIdeal.τ).loc Cert.InprojAIdeal.main_v8)),
      θ_run (Cert.InprojAIdeal.defs (F := Ideal)) (onTc (τ := Cert.InprojAIdeal.τ) (Cert.InprojAIdeal.main (F := Ideal))) ⟨m, fun _ => 0, g⟩ (fun r => ∀ c : Dev Cert.InprojAIdeal.nD,
          r.2.mem ((c.tc : Thread Cert.InprojAIdeal.nD Cert.InprojAIdeal.τ).loc Cert.InprojAIdeal.main_v8) = v0 c
          ∧ r.2.mem ((c.tc : Thread Cert.InprojAIdeal.nD Cert.InprojAIdeal.τ).loc Cert.InprojAIdeal.main_arg0) = m ((c.tc : Thread Cert.InprojAIdeal.nD Cert.InprojAIdeal.τ).loc Cert.InprojAIdeal.main_arg0)
          ∧ r.2.mem ((c.tc : Thread Cert.InprojAIdeal.nD Cert.InprojAIdeal.τ).loc Cert.InprojAIdeal.main_arg1) = m ((c.tc : Thread Cert.InprojAIdeal.nD Cert.InprojAIdeal.τ).loc Cert.InprojAIdeal.main_arg1)
          ∧ r.2.mem ((c.tc : Thread Cert.InprojAIdeal.nD Cert.InprojAIdeal.τ).loc Cert.InprojAIdeal.main_arg2) = m ((c.tc : Thread Cert.InprojAIdeal.nD Cert.InprojAIdeal.τ).loc Cert.InprojAIdeal.main_arg2))
      ∧ θ_run (Cert.InprojARefIdeal.defs (F := Ideal)) (onTc (τ := Cert.InprojARefIdeal.τ) (Cert.InprojARefIdeal.main (F := Ideal))) ⟨m', fun _ => 0, g'⟩ (fun r => ∀ c : Dev Cert.InprojARefIdeal.nD,
          r.2.mem ((c.tc : Thread Cert.InprojARefIdeal.nD Cert.InprojARefIdeal.τ).loc Cert.InprojARefIdeal.main_v22) = v0 c
          ∧ r.2.mem ((c.tc : Thread Cert.InprojARefIdeal.nD Cert.InprojARefIdeal.τ).loc Cert.InprojARefIdeal.main_arg0) = m' ((c.tc : Thread Cert.InprojARefIdeal.nD Cert.InprojARefIdeal.τ).loc Cert.InprojARefIdeal.main_arg0)
          ∧ r.2.mem ((c.tc : Thread Cert.InprojARefIdeal.nD Cert.InprojARefIdeal.τ).loc Cert.InprojARefIdeal.main_arg1) = m' ((c.tc : Thread Cert.InprojARefIdeal.nD Cert.InprojARefIdeal.τ).loc Cert.InprojARefIdeal.main_arg1)
          ∧ r.2.mem ((c.tc : Thread Cert.InprojARefIdeal.nD Cert.InprojARefIdeal.τ).loc Cert.InprojARefIdeal.main_arg2) = m' ((c.tc : Thread Cert.InprojARefIdeal.nD Cert.InprojARefIdeal.τ).loc Cert.InprojARefIdeal.main_arg2))

def preserves_InprojB_InprojBIdeal : Prop :=
  True

def algebraic_InprojBIdeal_InprojBRefIdeal [hInprojBIdeal : Cert.InprojBIdeal.Facts] [hInprojBRefIdeal : Cert.InprojBRefIdeal.Facts] : Prop :=
  ∀ (m : (ℓ : Loc Cert.InprojBIdeal.nD Cert.InprojBIdeal.τ Cert.InprojBIdeal.sig) → Buf (Elt Ideal) ℓ) (g : Dev Cert.InprojBIdeal.nD → PrngReg)
    (m' : (ℓ : Loc Cert.InprojBRefIdeal.nD Cert.InprojBRefIdeal.τ Cert.InprojBRefIdeal.sig) → Buf (Elt Ideal) ℓ) (g' : Dev Cert.InprojBRefIdeal.nD → PrngReg), Pre_InprojBIdeal m →
    (∀ c : Dev Cert.InprojBIdeal.nD,
      m' ((c.tc : Thread Cert.InprojBRefIdeal.nD Cert.InprojBRefIdeal.τ).loc Cert.InprojBRefIdeal.main_arg0) = m ((c.tc : Thread Cert.InprojBIdeal.nD Cert.InprojBIdeal.τ).loc Cert.InprojBIdeal.main_arg0)
      ∧ m' ((c.tc : Thread Cert.InprojBRefIdeal.nD Cert.InprojBRefIdeal.τ).loc Cert.InprojBRefIdeal.main_arg1) = m ((c.tc : Thread Cert.InprojBIdeal.nD Cert.InprojBIdeal.τ).loc Cert.InprojBIdeal.main_arg1)
      ∧ m' ((c.tc : Thread Cert.InprojBRefIdeal.nD Cert.InprojBRefIdeal.τ).loc Cert.InprojBRefIdeal.main_arg2) = m ((c.tc : Thread Cert.InprojBIdeal.nD Cert.InprojBIdeal.τ).loc Cert.InprojBIdeal.main_arg2)) →
    ∃ (v0 : (c : Dev Cert.InprojBIdeal.nD) → Buf (Elt Ideal) ((c.tc : Thread Cert.InprojBIdeal.nD Cert.InprojBIdeal.τ).loc Cert.InprojBIdeal.main_v13)),
      θ_run (Cert.InprojBIdeal.defs (F := Ideal)) (onTc (τ := Cert.InprojBIdeal.τ) (Cert.InprojBIdeal.main (F := Ideal))) ⟨m, fun _ => 0, g⟩ (fun r => ∀ c : Dev Cert.InprojBIdeal.nD,
          r.2.mem ((c.tc : Thread Cert.InprojBIdeal.nD Cert.InprojBIdeal.τ).loc Cert.InprojBIdeal.main_v13) = v0 c
          ∧ r.2.mem ((c.tc : Thread Cert.InprojBIdeal.nD Cert.InprojBIdeal.τ).loc Cert.InprojBIdeal.main_arg0) = m ((c.tc : Thread Cert.InprojBIdeal.nD Cert.InprojBIdeal.τ).loc Cert.InprojBIdeal.main_arg0)
          ∧ r.2.mem ((c.tc : Thread Cert.InprojBIdeal.nD Cert.InprojBIdeal.τ).loc Cert.InprojBIdeal.main_arg1) = m ((c.tc : Thread Cert.InprojBIdeal.nD Cert.InprojBIdeal.τ).loc Cert.InprojBIdeal.main_arg1)
          ∧ r.2.mem ((c.tc : Thread Cert.InprojBIdeal.nD Cert.InprojBIdeal.τ).loc Cert.InprojBIdeal.main_arg2) = m ((c.tc : Thread Cert.InprojBIdeal.nD Cert.InprojBIdeal.τ).loc Cert.InprojBIdeal.main_arg2))
      ∧ θ_run (Cert.InprojBRefIdeal.defs (F := Ideal)) (onTc (τ := Cert.InprojBRefIdeal.τ) (Cert.InprojBRefIdeal.main (F := Ideal))) ⟨m', fun _ => 0, g'⟩ (fun r => ∀ c : Dev Cert.InprojBRefIdeal.nD,
          r.2.mem ((c.tc : Thread Cert.InprojBRefIdeal.nD Cert.InprojBRefIdeal.τ).loc Cert.InprojBRefIdeal.main_v23) = v0 c
          ∧ r.2.mem ((c.tc : Thread Cert.InprojBRefIdeal.nD Cert.InprojBRefIdeal.τ).loc Cert.InprojBRefIdeal.main_arg0) = m' ((c.tc : Thread Cert.InprojBRefIdeal.nD Cert.InprojBRefIdeal.τ).loc Cert.InprojBRefIdeal.main_arg0)
          ∧ r.2.mem ((c.tc : Thread Cert.InprojBRefIdeal.nD Cert.InprojBRefIdeal.τ).loc Cert.InprojBRefIdeal.main_arg1) = m' ((c.tc : Thread Cert.InprojBRefIdeal.nD Cert.InprojBRefIdeal.τ).loc Cert.InprojBRefIdeal.main_arg1)
          ∧ r.2.mem ((c.tc : Thread Cert.InprojBRefIdeal.nD Cert.InprojBRefIdeal.τ).loc Cert.InprojBRefIdeal.main_arg2) = m' ((c.tc : Thread Cert.InprojBRefIdeal.nD Cert.InprojBRefIdeal.τ).loc Cert.InprojBRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v4)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v4) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v5) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_Compress_CompressIdeal : Prop :=
  True

def algebraic_CompressIdeal_CompressRefIdeal_pre_finite [hCompressIdeal : Cert.CompressIdeal.Facts] [hCompressRefIdeal : Cert.CompressRefIdeal.Facts] [hPre_finite : Cert.Pre_finite.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal_finite m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)) →
    ∃ (v0 : (c : Dev Cert.CompressIdeal.nD) → Buf (Elt Ideal) ((c.tc : Thread Cert.CompressIdeal.nD Cert.CompressIdeal.τ).loc Cert.CompressIdeal.main_v24)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v24) = v0 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v40) = v0 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6))

def Claim : Prop :=
  ∃ (hMlstm : Cert.Mlstm.Facts) (hMlstmIdeal : Cert.MlstmIdeal.Facts) (hMlstmRefIdeal : Cert.MlstmRefIdeal.Facts) (hMlp : Cert.Mlp.Facts) (hMlpIdeal : Cert.MlpIdeal.Facts) (hMlpRefIdeal : Cert.MlpRefIdeal.Facts) (hInprojA : Cert.InprojA.Facts) (hInprojAIdeal : Cert.InprojAIdeal.Facts) (hInprojARefIdeal : Cert.InprojARefIdeal.Facts) (hInprojB : Cert.InprojB.Facts) (hInprojBIdeal : Cert.InprojBIdeal.Facts) (hInprojBRefIdeal : Cert.InprojBRefIdeal.Facts) (hOutproj : Cert.Outproj.Facts) (hOutprojIdeal : Cert.OutprojIdeal.Facts) (hOutprojRefIdeal : Cert.OutprojRefIdeal.Facts) (hCompress : Cert.Compress.Facts) (hCompressIdeal : Cert.CompressIdeal.Facts) (hCompressRefIdeal : Cert.CompressRefIdeal.Facts) (hPre_finite : Cert.Pre_finite.Facts),
    quiescent_Mlstm (hMlstm := hMlstm)
    ∧ quiescent_MlstmIdeal (hMlstmIdeal := hMlstmIdeal)
    ∧ quiescent_MlstmRefIdeal (hMlstmRefIdeal := hMlstmRefIdeal)
    ∧ quiescent_Mlp (hMlp := hMlp)
    ∧ quiescent_MlpIdeal (hMlpIdeal := hMlpIdeal)
    ∧ quiescent_MlpRefIdeal (hMlpRefIdeal := hMlpRefIdeal)
    ∧ quiescent_InprojA (hInprojA := hInprojA)
    ∧ quiescent_InprojAIdeal (hInprojAIdeal := hInprojAIdeal)
    ∧ quiescent_InprojARefIdeal (hInprojARefIdeal := hInprojARefIdeal)
    ∧ quiescent_InprojB (hInprojB := hInprojB)
    ∧ quiescent_InprojBIdeal (hInprojBIdeal := hInprojBIdeal)
    ∧ quiescent_InprojBRefIdeal (hInprojBRefIdeal := hInprojBRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Compress (hCompress := hCompress)
    ∧ quiescent_CompressIdeal (hCompressIdeal := hCompressIdeal)
    ∧ quiescent_CompressIdeal_pre_finite (hCompressIdeal := hCompressIdeal) (hPre_finite := hPre_finite)
    ∧ quiescent_CompressRefIdeal (hCompressRefIdeal := hCompressRefIdeal)
    ∧ quiescent_CompressRefIdeal_pre_finite (hCompressRefIdeal := hCompressRefIdeal) (hPre_finite := hPre_finite)
    ∧ preserves_Mlstm_MlstmIdeal
    ∧ preserves_Mlp_MlpIdeal
    ∧ algebraic_MlpIdeal_MlpRefIdeal (hMlpIdeal := hMlpIdeal) (hMlpRefIdeal := hMlpRefIdeal)
    ∧ preserves_InprojA_InprojAIdeal
    ∧ algebraic_InprojAIdeal_InprojARefIdeal (hInprojAIdeal := hInprojAIdeal) (hInprojARefIdeal := hInprojARefIdeal)
    ∧ preserves_InprojB_InprojBIdeal
    ∧ algebraic_InprojBIdeal_InprojBRefIdeal (hInprojBIdeal := hInprojBIdeal) (hInprojBRefIdeal := hInprojBRefIdeal)
    ∧ preserves_Outproj_OutprojIdeal
    ∧ algebraic_OutprojIdeal_OutprojRefIdeal (hOutprojIdeal := hOutprojIdeal) (hOutprojRefIdeal := hOutprojRefIdeal)
    ∧ preserves_Compress_CompressIdeal
    ∧ algebraic_CompressIdeal_CompressRefIdeal_pre_finite (hCompressIdeal := hCompressIdeal) (hCompressRefIdeal := hCompressRefIdeal) (hPre_finite := hPre_finite)
-- ==== Pre_finite.lean ====
abbrev S32768x2560 : Shape := ⟨2, ![32768, 2560]⟩
abbrev S1x4096x128 : Shape := ⟨3, ![1, 4096, 128]⟩
abbrev S1x128x128 : Shape := ⟨3, ![1, 128, 128]⟩
abbrev S1x32x128 : Shape := ⟨3, ![1, 32, 128]⟩
abbrev S_ : Shape := ⟨0, ![]⟩

class Facts : Prop where
  bcast_S_S1x4096x128 : S_.BroadcastsInDim S1x4096x128 (![] : Fin 0 → Fin S1x4096x128.rank)
  reducesTo_S1x4096x128_S_d0_1_2 : S1x4096x128.ReducesTo [0, 1, 2] S_
  h_S_ : 0 < S_.numel
  bcast_S_S1x32x128 : S_.BroadcastsInDim S1x32x128 (![] : Fin 0 → Fin S1x32x128.rank)
  reducesTo_S1x32x128_S_d0_1_2 : S1x32x128.ReducesTo [0, 1, 2] S_

variable [Facts]

def fn_part1 {F : FTy → Type} [FloatOps F] (main_v13 : IVec S_ 1) (main_v16 : IVec S1x32x128 1) : IVec S_ 1 :=
  let main_c_5 : IVec S_ 1 := constantI S_ 1 1#1
  let main_v17 : IVec S_ 1 := (fun x v => Host.reduce IntOp.andi x v reducesTo_S1x32x128_S_d0_1_2 h_S_) main_v16 main_c_5
  let main_v18 : IVec S_ 1 := andi main_v13 main_v17
  main_v18

def fn {F : FTy → Type} [FloatOps F] (main_arg0 : FVec F S32768x2560 .bf16) (main_arg1 : FVec F S1x4096x128 .f32) (main_arg2 : FVec F S1x128x128 .f32) (main_arg3 : FVec F S1x32x128 .f32) (main_arg4 : FVec F S1x4096x128 .f32) (main_arg5 : FVec F S1x128x128 .f32) (main_arg6 : FVec F S1x32x128 .f32) : IVec S_ 1 :=
  let main_v0 : FVec F S1x4096x128 .f32 := Host.absf main_arg1
  let main_cst : FVec F S_ .f32 := constant S_ .f32 0x7F800000#32
  let main_v1 : FVec F S1x4096x128 .f32 := broadcastInDim S1x4096x128 ![] bcast_S_S1x4096x128 main_cst
  let main_v2 : IVec S1x4096x128 1 := cmpf .olt main_v0 main_v1
  let main_c : IVec S_ 1 := constantI S_ 1 1#1
  let main_v3 : IVec S_ 1 := (fun x v => Host.reduce IntOp.andi x v reducesTo_S1x4096x128_S_d0_1_2 h_S_) main_v2 main_c
  let main_v4 : FVec F S1x32x128 .f32 := Host.absf main_arg3
  let main_cst_0 : FVec F S_ .f32 := constant S_ .f32 0x7F800000#32
  let main_v5 : FVec F S1x32x128 .f32 := broadcastInDim S1x32x128 ![] bcast_S_S1x32x128 main_cst_0
  let main_v6 : IVec S1x32x128 1 := cmpf .olt main_v4 main_v5
  let main_c_1 : IVec S_ 1 := constantI S_ 1 1#1
  let main_v7 : IVec S_ 1 := (fun x v => Host.reduce IntOp.andi x v reducesTo_S1x32x128_S_d0_1_2 h_S_) main_v6 main_c_1
  let main_v8 : IVec S_ 1 := andi main_v3 main_v7
  let main_v9 : FVec F S1x4096x128 .f32 := Host.absf main_arg4
  let main_cst_2 : FVec F S_ .f32 := constant S_ .f32 0x7F800000#32
  let main_v10 : FVec F S1x4096x128 .f32 := broadcastInDim S1x4096x128 ![] bcast_S_S1x4096x128 main_cst_2
  let main_v11 : IVec S1x4096x128 1 := cmpf .olt main_v9 main_v10
  let main_c_3 : IVec S_ 1 := constantI S_ 1 1#1
  let main_v12 : IVec S_ 1 := (fun x v => Host.reduce IntOp.andi x v reducesTo_S1x4096x128_S_d0_1_2 h_S_) main_v11 main_c_3
  let main_v13 : IVec S_ 1 := andi main_v8 main_v12
  let main_v14 : FVec F S1x32x128 .f32 := Host.absf main_arg6
  let main_cst_4 : FVec F S_ .f32 := constant S_ .f32 0x7F800000#32
  let main_v15 : FVec F S1x32x128 .f32 := broadcastInDim S1x32x128 ![] bcast_S_S1x32x128 main_cst_4
  let main_v16 : IVec S1x32x128 1 := cmpf .olt main_v14 main_v15
  fn_part1 (F := F) main_v13 main_v16
-- ==== Mlstm.lean ====
abbrev S32768x4608 : Shape := ⟨2, ![32768, 4608]⟩
abbrev S1x4x2048 : Shape := ⟨3, ![1, 4, 2048]⟩
abbrev S1x2048 : Shape := ⟨2, ![1, 2048]⟩
abbrev S1x4 : Shape := ⟨2, ![1, 4]⟩
abbrev S1x1024 : Shape := ⟨2, ![1, 1024]⟩
abbrev S4x2048 : Shape := ⟨2, ![4, 2048]⟩
abbrev S2048 : Shape := ⟨1, ![2048]⟩
abbrev S4 : Shape := ⟨1, ![4]⟩
abbrev S1024 : Shape := ⟨1, ![1024]⟩
abbrev S32768x8 : Shape := ⟨2, ![32768, 8]⟩
abbrev S8x32768 : Shape := ⟨2, ![8, 32768]⟩
abbrev S8 : Shape := ⟨1, ![8]⟩
abbrev S_ : Shape := ⟨0, ![]⟩
abbrev S256x256 : Shape := ⟨2, ![256, 256]⟩
abbrev S32768x1024 : Shape := ⟨2, ![32768, 1024]⟩
abbrev S256x1024 : Shape := ⟨2, ![256, 1024]⟩
abbrev S256x128 : Shape := ⟨2, ![256, 128]⟩
abbrev S8x256 : Shape := ⟨2, ![8, 256]⟩
abbrev S4x256x256 : Shape := ⟨3, ![4, 256, 256]⟩
abbrev S8x128 : Shape := ⟨2, ![8, 128]⟩
abbrev S8x1024 : Shape := ⟨2, ![8, 1024]⟩
abbrev S1x128 : Shape := ⟨2, ![1, 128]⟩
abbrev S1 : Shape := ⟨1, ![1]⟩
abbrev S8x1 : Shape := ⟨2, ![8, 1]⟩
abbrev S256x1 : Shape := ⟨2, ![256, 1]⟩
abbrev S1x256 : Shape := ⟨2, ![1, 256]⟩
abbrev S4x1024 : Shape := ⟨2, ![4, 1024]⟩
abbrev S248x1024 : Shape := ⟨2, ![248, 1024]⟩
abbrev S1x1 : Shape := ⟨2, ![1, 1]⟩
abbrev S256 : Shape := ⟨1, ![256]⟩
abbrev S1x256x256 : Shape := ⟨3, ![1, 256, 256]⟩

abbrev nBuf : Space → Nat
  | .hbm => 28
  | .vmem => 23
  | .smem => 1
  | _ => 0

abbrev bufTy : (tb : Table) → Fin (tcTables nBuf tb) → BufTy
  | .hbm, ⟨0, _⟩ => ⟨S32768x4608, .f32⟩
  | .hbm, ⟨1, _⟩ => ⟨S1x4x2048, .f32⟩
  | .hbm, ⟨2, _⟩ => ⟨S1x2048, .f32⟩
  | .hbm, ⟨3, _⟩ => ⟨S1x4, .f32⟩
  | .hbm, ⟨4, _⟩ => ⟨S1x4, .f32⟩
  | .hbm, ⟨5, _⟩ => ⟨S1x1024, .f32⟩
  | .hbm, ⟨6, _⟩ => ⟨S4x2048, .f32⟩
  | .hbm, ⟨7, _⟩ => ⟨S2048, .f32⟩
  | .hbm, ⟨8, _⟩ => ⟨S4, .f32⟩
  | .hbm, ⟨9, _⟩ => ⟨S4, .f32⟩
  | .hbm, ⟨10, _⟩ => ⟨S1024, .f32⟩
  | .hbm, ⟨11, _⟩ => ⟨S32768x8, .f32⟩
  | .hbm, ⟨12, _⟩ => ⟨S8x32768, .f32⟩
  | .hbm, ⟨13, _⟩ => ⟨S8, .f32⟩
  | .hbm, ⟨14, _⟩ => ⟨S_, .f32⟩
  | .hbm, ⟨15, _⟩ => ⟨S256x256, .f32⟩
  | .hbm, ⟨16, _⟩ => ⟨S256x256, .i32⟩
  | .hbm, ⟨17, _⟩ => ⟨S_, .i32⟩
  | .hbm, ⟨18, _⟩ => ⟨S256x256, .i32⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S1x2048, .f32⟩
  | .hbm, ⟨26, _⟩ => ⟨S1x1024, .f32⟩
  | .hbm, ⟨27, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S8x256, .f32⟩
  | .local _ .vmem, ⟨11, _⟩ => ⟨S8x256, .f32⟩
  | .local _ .vmem, ⟨12, _⟩ => ⟨S4x2048, .f32⟩
  | .local _ .vmem, ⟨13, _⟩ => ⟨S1x2048, .f32⟩
  | .local _ .vmem, ⟨14, _⟩ => ⟨S1x1024, .f32⟩
  | .local _ .vmem, ⟨15, _⟩ => ⟨S256x256, .f32⟩
  | .local _ .vmem, ⟨16, _⟩ => ⟨S256x1024, .bf16⟩
  | .local _ .vmem, ⟨17, _⟩ => ⟨S256x1024, .bf16⟩
  | .local _ .vmem, ⟨18, _⟩ => ⟨S4x256x256, .f32⟩
  | .local _ .vmem, ⟨19, _⟩ => ⟨S8x256, .f32⟩
  | .local _ .vmem, ⟨20, _⟩ => ⟨S8x128, .f32⟩
  | .local _ .vmem, ⟨21, _⟩ => ⟨S8x1024, .f32⟩
  | .local _ .vmem, ⟨22, _⟩ => ⟨S8x1024, .f32⟩
  | .local _ .smem, ⟨0, _⟩ => ⟨S8, .f32⟩
  | _, _ => ⟨S32768x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_cst : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c34_i32 : BitVec 32 := 34#32
  let c0_i32 : BitVec 32 := 0#32
  ![v1.toNat, c34_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MlstmIdeal.lean ====
variable {F : FTy → Type} [FloatOps F] [Named F]
def κ : String → Option EReal := fun
  | "mask" => some ⊥
  | _ => none
-- ==== MlstmRefIdeal.lean ====
abbrev S32768x4608 : Shape := ⟨2, ![32768, 4608]⟩
abbrev S1x4x2048 : Shape := ⟨3, ![1, 4, 2048]⟩
abbrev S1x2048 : Shape := ⟨2, ![1, 2048]⟩
abbrev S1x4 : Shape := ⟨2, ![1, 4]⟩
abbrev S1x1024 : Shape := ⟨2, ![1, 1024]⟩
abbrev S4x8192x4608 : Shape := ⟨3, ![4, 8192, 4608]⟩
abbrev S4x8192x2048 : Shape := ⟨3, ![4, 8192, 2048]⟩
abbrev S4x8192x1024 : Shape := ⟨3, ![4, 8192, 1024]⟩
abbrev S4x8192x4 : Shape := ⟨3, ![4, 8192, 4]⟩
abbrev S4x2048 : Shape := ⟨2, ![4, 2048]⟩
abbrev S2048 : Shape := ⟨1, ![2048]⟩
abbrev S_ : Shape := ⟨0, ![]⟩
abbrev S4x8195x2048 : Shape := ⟨3, ![4, 8195, 2048]⟩
abbrev S1x1x2048 : Shape := ⟨3, ![1, 1, 2048]⟩
abbrev S4 : Shape := ⟨1, ![4]⟩
abbrev S1x1x4 : Shape := ⟨3, ![1, 1, 4]⟩
abbrev S1024 : Shape := ⟨1, ![1024]⟩
abbrev S4x128x64x4x256 : Shape := ⟨5, ![4, 128, 64, 4, 256]⟩
abbrev S128x4x4x64x256 : Shape := ⟨5, ![128, 4, 4, 64, 256]⟩
abbrev S4x128x64x4 : Shape := ⟨4, ![4, 128, 64, 4]⟩
abbrev S128x4x4x64 : Shape := ⟨4, ![128, 4, 4, 64]⟩
abbrev S64x64 : Shape := ⟨2, ![64, 64]⟩
abbrev S4x4x256x256 : Shape := ⟨4, ![4, 4, 256, 256]⟩
abbrev S4x4x256 : Shape := ⟨3, ![4, 4, 256]⟩
abbrev S4x4 : Shape := ⟨2, ![4, 4]⟩
abbrev S1x4x4x64x256 : Shape := ⟨5, ![1, 4, 4, 64, 256]⟩
abbrev S4x4x64x256 : Shape := ⟨4, ![4, 4, 64, 256]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩
abbrev S4x8192x4x256 : Shape := ⟨4, ![4, 8192, 4, 256]⟩
abbrev S4x8192x4x1 : Shape := ⟨4, ![4, 8192, 4, 1]⟩
abbrev S4x256 : Shape := ⟨2, ![4, 256]⟩
abbrev S1x1x4x256 : Shape := ⟨4, ![1, 1, 4, 256]⟩
abbrev S32768x1024 : Shape := ⟨2, ![32768, 1024]⟩

abbrev nBuf : Space → Nat
  | .hbm => 275
  | .vmem => 0
  | .smem => 0
  | _ => 0

abbrev hbmTy0_0 (i : Nat) : BufTy := match i % 128 with
  | 0 => ⟨S32768x4608, .f32⟩
  | 1 => ⟨S1x4x2048, .f32⟩
  | 2 => ⟨S1x2048, .f32⟩
  | 3 => ⟨S1x4, .f32⟩
  | 4 => ⟨S1x4, .f32⟩
  | 5 => ⟨S1x1024, .f32⟩
  | 6 => ⟨S4x8192x4608, .f32⟩
  | 7 => ⟨S4x8192x2048, .f32⟩
  | 8 => ⟨S4x8192x1024, .f32⟩
  | 9 => ⟨S4x8192x1024, .f32⟩
  | 10 => ⟨S4x8192x4, .f32⟩
  | 11 => ⟨S4x8192x4, .f32⟩
  | 12 => ⟨S4x2048, .f32⟩
  | 13 => ⟨S2048, .f32⟩
  | 14 => ⟨S_, .i32⟩
  | 15 => ⟨S_, .f32⟩
  | 16 => ⟨S4x8195x2048, .f32⟩
  | 17 => ⟨S4x8192x2048, .f32⟩
  | 18 => ⟨S1x2048, .f32⟩
  | 19 => ⟨S2048, .f32⟩
  | 20 => ⟨S1x1x2048, .f32⟩
  | 21 => ⟨S4x8192x2048, .f32⟩
  | 22 => ⟨S4x8192x2048, .f32⟩
  | 23 => ⟨S1x1x2048, .f32⟩
  | 24 => ⟨S4x8192x2048, .f32⟩
  | 25 => ⟨S4x8192x2048, .f32⟩
  | 26 => ⟨S4x8192x2048, .f32⟩
  | 27 => ⟨S1x2048, .f32⟩
  | 28 => ⟨S2048, .f32⟩
  | 29 => ⟨S1x1x2048, .f32⟩
  | 30 => ⟨S4x8192x2048, .f32⟩
  | 31 => ⟨S4x8192x2048, .f32⟩
  | 32 => ⟨S4x8192x2048, .f32⟩
  | 33 => ⟨S4x8192x2048, .f32⟩
  | 34 => ⟨S1x2048, .f32⟩
  | 35 => ⟨S2048, .f32⟩
  | 36 => ⟨S1x1x2048, .f32⟩
  | 37 => ⟨S4x8192x2048, .f32⟩
  | 38 => ⟨S4x8192x2048, .f32⟩
  | 39 => ⟨S4x8192x2048, .f32⟩
  | 40 => ⟨S4x8192x2048, .f32⟩
  | 41 => ⟨S1x2048, .f32⟩
  | 42 => ⟨S2048, .f32⟩
  | 43 => ⟨S1x1x2048, .f32⟩
  | 44 => ⟨S4x8192x2048, .f32⟩
  | 45 => ⟨S4x8192x2048, .f32⟩
  | 46 => ⟨S4x8192x2048, .f32⟩
  | 47 => ⟨S4x8192x2048, .f32⟩
  | 48 => ⟨S4x8192x2048, .f32⟩
  | 49 => ⟨S_, .f32⟩
  | 50 => ⟨S4x8192x2048, .f32⟩
  | 51 => ⟨S4x8192x2048, .f32⟩
  | 52 => ⟨S_, .f32⟩
  | 53 => ⟨S4x8192x2048, .f32⟩
  | 54 => ⟨S4x8192x2048, .f32⟩
  | 55 => ⟨S4x8192x2048, .f32⟩
  | 56 => ⟨S4x8192x1024, .f32⟩
  | 57 => ⟨S4x8192x1024, .f32⟩
  | 58 => ⟨S4, .f32⟩
  | 59 => ⟨S1x1x4, .f32⟩
  | 60 => ⟨S4x8192x4, .f32⟩
  | 61 => ⟨S4x8192x4, .f32⟩
  | 62 => ⟨S4, .f32⟩
  | 63 => ⟨S1x1x4, .f32⟩
  | 64 => ⟨S4x8192x4, .f32⟩
  | 65 => ⟨S4x8192x4, .f32⟩
  | 66 => ⟨S1024, .f32⟩
  | 67 => ⟨S4x128x64x4x256, .f32⟩
  | 68 => ⟨S128x4x4x64x256, .f32⟩
  | 69 => ⟨S4x128x64x4x256, .f32⟩
  | 70 => ⟨S128x4x4x64x256, .f32⟩
  | 71 => ⟨S_, .f32⟩
  | 72 => ⟨S128x4x4x64x256, .f32⟩
  | 73 => ⟨S128x4x4x64x256, .f32⟩
  | 74 => ⟨S4x128x64x4x256, .f32⟩
  | 75 => ⟨S128x4x4x64x256, .f32⟩
  | 76 => ⟨S4x128x64x4, .f32⟩
  | 77 => ⟨S128x4x4x64, .f32⟩
  | 78 => ⟨S4x128x64x4, .f32⟩
  | 79 => ⟨S128x4x4x64, .f32⟩
  | 80 => ⟨S128x4x4x64, .f32⟩
  | 81 => ⟨S_, .f32⟩
  | 82 => ⟨S128x4x4x64, .f32⟩
  | 83 => ⟨S128x4x4x64, .f32⟩
  | 84 => ⟨S128x4x4x64, .f32⟩
  | 85 => ⟨S128x4x4x64, .f32⟩
  | 86 => ⟨S128x4x4x64, .i1⟩
  | 87 => ⟨S128x4x4x64, .f32⟩
  | 88 => ⟨S128x4x4x64, .f32⟩
  | 89 => ⟨S128x4x4x64, .f32⟩
  | 90 => ⟨S128x4x4x64, .f32⟩
  | 91 => ⟨S128x4x4x64, .f32⟩
  | 92 => ⟨S128x4x4x64, .f32⟩
  | 93 => ⟨S128x4x4x64, .f32⟩
  | 94 => ⟨S128x4x4x64, .f32⟩
  | 95 => ⟨S128x4x4x64, .f32⟩
  | 96 => ⟨S_, .i1⟩
  | 97 => ⟨S64x64, .i1⟩
  | 98 => ⟨S64x64, .i32⟩
  | 99 => ⟨S_, .i32⟩
  | 100 => ⟨S64x64, .i32⟩
  | 101 => ⟨S64x64, .i32⟩
  | 102 => ⟨S64x64, .i32⟩
  | 103 => ⟨S64x64, .i1⟩
  | 104 => ⟨S_, .i1⟩
  | 105 => ⟨S64x64, .i1⟩
  | 106 => ⟨S64x64, .i1⟩
  | 107 => ⟨S_, .f32⟩
  | 108 => ⟨S4x4x256x256, .f32⟩
  | 109 => ⟨S_, .f32⟩
  | 110 => ⟨S4x4x256, .f32⟩
  | 111 => ⟨S_, .f32⟩
  | 112 => ⟨S4x4, .f32⟩
  | 113 => ⟨S_, .f32⟩
  | 114 => ⟨S128x4x4x64x256, .f32⟩
  | 115 => ⟨S_, .i32⟩
  | 116 => ⟨S128x4x4x64x256, .f32⟩
  | 117 => ⟨S128x4x4x64x256, .f32⟩
  | 118 => ⟨S128x4x4x64x256, .f32⟩
  | 119 => ⟨S128x4x4x64, .f32⟩
  | 120 => ⟨S128x4x4x64, .f32⟩
  | 121 => ⟨S64x64, .i1⟩
  | 122 => ⟨S_, .i32⟩
  | 123 => ⟨S4x4x256x256, .f32⟩
  | 124 => ⟨S4x4x256, .f32⟩
  | 125 => ⟨S4x4, .f32⟩
  | 126 => ⟨S128x4x4x64x256, .f32⟩
  | 127 => ⟨S_, .i32⟩
  | _ => ⟨S32768x4608, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S1x4x4x64x256, .f32⟩
  | 6 => ⟨S4x4x64x256, .f32⟩
  | 7 => ⟨S_, .i32⟩
  | 8 => ⟨S_, .i32⟩
  | 9 => ⟨S_, .i32⟩
  | 10 => ⟨S_, .i32⟩
  | 11 => ⟨S1x4x4x64x256, .f32⟩
  | 12 => ⟨S4x4x64x256, .f32⟩
  | 13 => ⟨S_, .i32⟩
  | 14 => ⟨S_, .i32⟩
  | 15 => ⟨S_, .i32⟩
  | 16 => ⟨S_, .i32⟩
  | 17 => ⟨S1x4x4x64x256, .f32⟩
  | 18 => ⟨S4x4x64x256, .f32⟩
  | 19 => ⟨S_, .i32⟩
  | 20 => ⟨S_, .i32⟩
  | 21 => ⟨S_, .i32⟩
  | 22 => ⟨S1x4x4x64, .f32⟩
  | 23 => ⟨S4x4x64, .f32⟩
  | 24 => ⟨S_, .i32⟩
  | 25 => ⟨S_, .i32⟩
  | 26 => ⟨S_, .i32⟩
  | 27 => ⟨S1x4x4x64, .f32⟩
  | 28 => ⟨S4x4x64, .f32⟩
  | 29 => ⟨S_, .f32⟩
  | 30 => ⟨S_, .f32⟩
  | 31 => ⟨S4x4x64, .f32⟩
  | 32 => ⟨S4x4x64x1, .f32⟩
  | 33 => ⟨S4x4x1x64, .f32⟩
  | 34 => ⟨S4x4x64x64, .f32⟩
  | 35 => ⟨S4x4x64x64, .f32⟩
  | 36 => ⟨S4x4x64x64, .f32⟩
  | 37 => ⟨S4x4x1x64, .f32⟩
  | 38 => ⟨S4x4x64x64, .f32⟩
  | 39 => ⟨S4x4x64x64, .f32⟩
  | 40 => ⟨S_, .f32⟩
  | 41 => ⟨S_, .f32⟩
  | 42 => ⟨S4x4x64x64, .i1⟩
  | 43 => ⟨S4x4x64x64, .f32⟩
  | 44 => ⟨S4x4x64x64, .f32⟩
  | 45 => ⟨S4x4x1, .f32⟩
  | 46 => ⟨S4x4x64, .f32⟩
  | 47 => ⟨S4x4x64, .f32⟩
  | 48 => ⟨S_, .f32⟩
  | 49 => ⟨S4x4x64, .f32⟩
  | 50 => ⟨S4x4x64, .f32⟩
  | 51 => ⟨S4x4x64x1, .f32⟩
  | 52 => ⟨S4x4x64x64, .f32⟩
  | 53 => ⟨S4x4x64x64, .f32⟩
  | 54 => ⟨S4x4x64x64, .f32⟩
  | 55 => ⟨S4x4x64, .f32⟩
  | 56 => ⟨S4x4x64, .f32⟩
  | 57 => ⟨S4x4x64x64, .f32⟩
  | 58 => ⟨S4x4x64x64, .f32⟩
  | 59 => ⟨S4x4x64x1, .f32⟩
  | 60 => ⟨S4x4x64x256, .f32⟩
  | 61 => ⟨S4x4x64x256, .f32⟩
  | 62 => ⟨S4x4x64x256, .f32⟩
  | 63 => ⟨S4x4x64x256, .f32⟩
  | 64 => ⟨S4x4x64x256, .f32⟩
  | 65 => ⟨S4x4x64, .f32⟩
  | 66 => ⟨S4x4x64, .f32⟩
  | 67 => ⟨S_, .f32⟩
  | 68 => ⟨S4x4x64, .f32⟩
  | 69 => ⟨S4x4x64, .f32⟩
  | 70 => ⟨S4x4x64, .f32⟩
  | 71 => ⟨S4x4x64, .f32⟩
  | 72 => ⟨S4x4x64, .f32⟩
  | 73 => ⟨S4x4x64, .f32⟩
  | 74 => ⟨S4x4x64x1, .f32⟩
  | 75 => ⟨S4x4x64x256, .f32⟩
  | 76 => ⟨S4x4x64x256, .f32⟩
  | 77 => ⟨S4x4x1, .f32⟩
  | 78 => ⟨S4x4, .f32⟩
  | 79 => ⟨S4x4x1, .f32⟩
  | 80 => ⟨S4x4x64, .f32⟩
  | 81 => ⟨S4x4x64, .f32⟩
  | 82 => ⟨S4x4x64, .f32⟩
  | 83 => ⟨S4x4, .f32⟩
  | 84 => ⟨S_, .f32⟩
  | 85 => ⟨S4x4, .f32⟩
  | 86 => ⟨S4x4, .f32⟩
  | 87 => ⟨S4x4x1, .f32⟩
  | 88 => ⟨S4x4x64, .f32⟩
  | 89 => ⟨S4x4x64, .f32⟩
  | 90 => ⟨S4x4x64, .f32⟩
  | 91 => ⟨S4x4, .f32⟩
  | 92 => ⟨S4x4, .f32⟩
  | 93 => ⟨S4x4, .f32⟩
  | 94 => ⟨S4x4x64x1, .f32⟩
  | 95 => ⟨S4x4x64x256, .f32⟩
  | 96 => ⟨S4x4x64x256, .f32⟩
  | 97 => ⟨S4x4x1x1, .f32⟩
  | 98 => ⟨S4x4x256x256, .f32⟩
  | 99 => ⟨S4x4x256x256, .f32⟩
  | 100 => ⟨S4x4x256x256, .f32⟩
  | 101 => ⟨S4x4x256x256, .f32⟩
  | 102 => ⟨S4x4x1, .f32⟩
  | 103 => ⟨S4x4x256, .f32⟩
  | 104 => ⟨S4x4x256, .f32⟩
  | 105 => ⟨S_, .f32⟩
  | 106 => ⟨S4x4x256, .f32⟩
  | 107 => ⟨S4x4x256, .f32⟩
  | 108 => ⟨S1x4x4x64x256, .f32⟩
  | 109 => ⟨S_, .i32⟩
  | 110 => ⟨S_, .i32⟩
  | 111 => ⟨S_, .i32⟩
  | 112 => ⟨S_, .i32⟩
  | 113 => ⟨S128x4x4x64x256, .f32⟩
  | 114 => ⟨S_, .i32⟩
  | 115 => ⟨S_, .i32⟩
  | 116 => ⟨S4x128x64x4x256, .f32⟩
  | 117 => ⟨S4x8192x4x256, .f32⟩
  | 118 => ⟨S4x8192x4x256, .f32⟩
  | 119 => ⟨S_, .f32⟩
  | 120 => ⟨S4x8192x4, .f32⟩
  | 121 => ⟨S4x8192x4x1, .f32⟩
  | 122 => ⟨S_, .f32⟩
  | 123 => ⟨S4x8192x4x1, .f32⟩
  | 124 => ⟨S4x8192x4x1, .f32⟩
  | 125 => ⟨S_, .f32⟩
  | 126 => ⟨S4x8192x4x1, .f32⟩
  | 127 => ⟨S4x8192x4x1, .f32⟩
  | _ => ⟨S32768x4608, .f32⟩

abbrev hbmTy0_2 (i : Nat) : BufTy := match i % 128 with
  | 0 => ⟨S4x8192x4x1, .f32⟩
  | 1 => ⟨S4x8192x4x256, .f32⟩
  | 2 => ⟨S4x8192x4x256, .f32⟩
  | 3 => ⟨S4x256, .f32⟩
  | 4 => ⟨S1x1x4x256, .f32⟩
  | 5 => ⟨S4x8192x4x256, .f32⟩
  | 6 => ⟨S4x8192x4x256, .f32⟩
  | 7 => ⟨S4x8192x1024, .f32⟩
  | 8 => ⟨S4x8192x1024, .f32⟩
  | 9 => ⟨S_, .f32⟩
  | 10 => ⟨S4x8192x1024, .f32⟩
  | 11 => ⟨S4x8192x1024, .f32⟩
  | 12 => ⟨S_, .f32⟩
  | 13 => ⟨S4x8192x1024, .f32⟩
  | 14 => ⟨S4x8192x1024, .f32⟩
  | 15 => ⟨S4x8192x1024, .f32⟩
  | 16 => ⟨S4x8192x1024, .f32⟩
  | 17 => ⟨S32768x1024, .f32⟩
  | 18 => ⟨S32768x1024, .bf16⟩
  | _ => ⟨S32768x4608, .f32⟩

abbrev hbmTy (i : Nat) : BufTy := match i / 128 with
  | 0 => hbmTy0_0 i
  | 1 => hbmTy0_1 i
  | 2 => hbmTy0_2 i
  | _ => ⟨S32768x4608, .f32⟩

abbrev bufTy : (tb : Table) → Fin (tcTables nBuf tb) → BufTy
  | .hbm, ⟨i, _⟩ => hbmTy i
  | _, _ => ⟨S32768x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_call2_v0 : Ref sig .tc := ⟨.hbm, 80, rfl⟩
abbrev main_call2_call0_cst : Ref sig .tc := ⟨.hbm, 81, rfl⟩
abbrev main_call2_call0_v0 : Ref sig .tc := ⟨.hbm, 82, rfl⟩
abbrev main_call2_call0_v1 : Ref sig .tc := ⟨.hbm, 83, rfl⟩
abbrev main_call2_call0_v2 : Ref sig .tc := ⟨.hbm, 84, rfl⟩
abbrev main_call2_call0_v3 : Ref sig .tc := ⟨.hbm, 85, rfl⟩
abbrev main_call2_call0_v4 : Ref sig .tc := ⟨.hbm, 86, rfl⟩
abbrev main_call2_call0_v5 : Ref sig .tc := ⟨.hbm, 87, rfl⟩
abbrev main_call2_call0_v6 : Ref sig .tc := ⟨.hbm, 88, rfl⟩
abbrev main_call2_call0_v7 : Ref sig .tc := ⟨.hbm, 89, rfl⟩
abbrev main_call2_call0_v8 : Ref sig .tc := ⟨.hbm, 90, rfl⟩
abbrev main_call2_call0_v9 : Ref sig .tc := ⟨.hbm, 91, rfl⟩
abbrev main_call2_call0_v10 : Ref sig .tc := ⟨.hbm, 92, rfl⟩
abbrev main_call2_call0_v11 : Ref sig .tc := ⟨.hbm, 93, rfl⟩
abbrev main_call2_v1 : Ref sig .tc := ⟨.hbm, 94, rfl⟩
abbrev main_v63 : Ref sig .tc := ⟨.hbm, 95, rfl⟩
abbrev main_c_0 : Ref sig .tc := ⟨.hbm, 96, rfl⟩
abbrev main_v64 : Ref sig .tc := ⟨.hbm, 97, rfl⟩
abbrev main_call3_v0 : Ref sig .tc := ⟨.hbm, 98, rfl⟩
abbrev main_call3_c : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_c_0 : Ref sig .tc := ⟨.hbm, 104, rfl⟩
abbrev main_call3_v5 : Ref sig .tc := ⟨.hbm, 105, rfl⟩
abbrev main_v65 : Ref sig .tc := ⟨.hbm, 106, rfl⟩
abbrev main_cst_1 : Ref sig .tc := ⟨.hbm, 107, rfl⟩
abbrev main_v66 : Ref sig .tc := ⟨.hbm, 108, rfl⟩
abbrev main_cst_2 : Ref sig .tc := ⟨.hbm, 109, rfl⟩
abbrev main_v67 : Ref sig .tc := ⟨.hbm, 110, rfl⟩
abbrev main_cst_3 : Ref sig .tc := ⟨.hbm, 111, rfl⟩
abbrev main_v68 : Ref sig .tc := ⟨.hbm, 112, rfl⟩
abbrev main_cst_4 : Ref sig .tc := ⟨.hbm, 113, rfl⟩
abbrev main_v69 : Ref sig .tc := ⟨.hbm, 114, rfl⟩
abbrev main_c_5 : Ref sig .tc := ⟨.hbm, 115, rfl⟩
abbrev main_v70_0 : Ref sig .tc := ⟨.hbm, 116, rfl⟩
abbrev main_v70_1 : Ref sig .tc := ⟨.hbm, 117, rfl⟩
abbrev main_v70_2 : Ref sig .tc := ⟨.hbm, 118, rfl⟩
abbrev main_v70_3 : Ref sig .tc := ⟨.hbm, 119, rfl⟩
abbrev main_v70_4 : Ref sig .tc := ⟨.hbm, 120, rfl⟩
abbrev main_v70_5 : Ref sig .tc := ⟨.hbm, 121, rfl⟩
abbrev main_v70_6 : Ref sig .tc := ⟨.hbm, 122, rfl⟩
abbrev main_v70_7 : Ref sig .tc := ⟨.hbm, 123, rfl⟩
abbrev main_v70_8 : Ref sig .tc := ⟨.hbm, 124, rfl⟩
abbrev main_v70_9 : Ref sig .tc := ⟨.hbm, 125, rfl⟩
abbrev main_v70_10 : Ref sig .tc := ⟨.hbm, 126, rfl⟩
abbrev main_while0c_c_21 : Ref sig .tc := ⟨.hbm, 127, rfl⟩
abbrev main_while0c_v97 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_c_2 : Ref sig .tc := ⟨.hbm, 132, rfl⟩
abbrev main_while0b_call4_v0 : Ref sig .tc := ⟨.hbm, 133, rfl⟩
abbrev main_while0b_v97 : Ref sig .tc := ⟨.hbm, 134, rfl⟩
abbrev main_while0b_call5_c : Ref sig .tc := ⟨.hbm, 135, rfl⟩
abbrev main_while0b_call5_c_0 : Ref sig .tc := ⟨.hbm, 136, rfl⟩
abbrev main_while0b_call5_c_1 : Ref sig .tc := ⟨.hbm, 137, rfl⟩
abbrev main_while0b_call5_c_2 : Ref sig .tc := ⟨.hbm, 138, rfl⟩
abbrev main_while0b_call5_v0 : Ref sig .tc := ⟨.hbm, 139, rfl⟩
abbrev main_while0b_v98 : Ref sig .tc := ⟨.hbm, 140, rfl⟩
abbrev main_while0b_call6_c : Ref sig .tc := ⟨.hbm, 141, rfl⟩
abbrev main_while0b_call6_c_0 : Ref sig .tc := ⟨.hbm, 142, rfl⟩
abbrev main_while0b_call6_c_1 : Ref sig .tc := ⟨.hbm, 143, rfl⟩
abbrev main_while0b_call6_c_2 : Ref sig .tc := ⟨.hbm, 144, rfl⟩
abbrev main_while0b_call6_v0 : Ref sig .tc := ⟨.hbm, 145, rfl⟩
abbrev main_while0b_v99 : Ref sig .tc := ⟨.hbm, 146, rfl⟩
abbrev main_while0b_call7_c : Ref sig .tc := ⟨.hbm, 147, rfl⟩
abbrev main_while0b_call7_c_0 : Ref sig .tc := ⟨.hbm, 148, rfl⟩
abbrev main_while0b_call7_c_1 : Ref sig .tc := ⟨.hbm, 149, rfl⟩
abbrev main_while0b_call7_v0 : Ref sig .tc := ⟨.hbm, 150, rfl⟩
abbrev main_while0b_v100 : Ref sig .tc := ⟨.hbm, 151, rfl⟩
abbrev main_while0b_call8_c : Ref sig .tc := ⟨.hbm, 152, rfl⟩
abbrev main_while0b_call8_c_0 : Ref sig .tc := ⟨.hbm, 153, rfl⟩
abbrev main_while0b_call8_c_1 : Ref sig .tc := ⟨.hbm, 154, rfl⟩
abbrev main_while0b_call8_v0 : Ref sig .tc := ⟨.hbm, 155, rfl⟩
abbrev main_while0b_v101 : Ref sig .tc := ⟨.hbm, 156, rfl⟩
abbrev main_while0b_call9_call0_cst : Ref sig .tc := ⟨.hbm, 157, rfl⟩
abbrev main_while0b_call9_call0_v0 : Ref sig .tc := ⟨.hbm, 158, rfl⟩
abbrev main_while0b_v102 : Ref sig .tc := ⟨.hbm, 159, rfl⟩
abbrev main_while0b_v103 : Ref sig .tc := ⟨.hbm, 160, rfl⟩
abbrev main_while0b_v104 : Ref sig .tc := ⟨.hbm, 161, rfl⟩
abbrev main_while0b_v105 : Ref sig .tc := ⟨.hbm, 162, rfl⟩
abbrev main_while0b_v106 : Ref sig .tc := ⟨.hbm, 163, rfl⟩
abbrev main_while0b_v107 : Ref sig .tc := ⟨.hbm, 164, rfl⟩
abbrev main_while0b_v108 : Ref sig .tc := ⟨.hbm, 165, rfl⟩
abbrev main_while0b_v109 : Ref sig .tc := ⟨.hbm, 166, rfl⟩
abbrev main_while0b_v110 : Ref sig .tc := ⟨.hbm, 167, rfl⟩
abbrev main_while0b_cst_21 : Ref sig .tc := ⟨.hbm, 168, rfl⟩
abbrev main_while0b_call10_v0 : Ref sig .tc := ⟨.hbm, 169, rfl⟩
abbrev main_while0b_call10_v1 : Ref sig .tc := ⟨.hbm, 170, rfl⟩
abbrev main_while0b_call10_v2 : Ref sig .tc := ⟨.hbm, 171, rfl⟩
abbrev main_while0b_v111 : Ref sig .tc := ⟨.hbm, 172, rfl⟩
abbrev main_while0b_v112 : Ref sig .tc := ⟨.hbm, 173, rfl⟩
abbrev main_while0b_v113 : Ref sig .tc := ⟨.hbm, 174, rfl⟩
abbrev main_while0b_v114 : Ref sig .tc := ⟨.hbm, 175, rfl⟩
abbrev main_while0b_cst_22 : Ref sig .tc := ⟨.hbm, 176, rfl⟩
abbrev main_while0b_v115 : Ref sig .tc := ⟨.hbm, 177, rfl⟩
abbrev main_while0b_v116 : Ref sig .tc := ⟨.hbm, 178, rfl⟩
abbrev main_while0b_v117 : Ref sig .tc := ⟨.hbm, 179, rfl⟩
abbrev main_while0b_v118 : Ref sig .tc := ⟨.hbm, 180, rfl⟩
abbrev main_while0b_v119 : Ref sig .tc := ⟨.hbm, 181, rfl⟩
abbrev main_while0b_v120 : Ref sig .tc := ⟨.hbm, 182, rfl⟩
abbrev main_while0b_v121 : Ref sig .tc := ⟨.hbm, 183, rfl⟩
abbrev main_while0b_v122 : Ref sig .tc := ⟨.hbm, 184, rfl⟩
abbrev main_while0b_v123 : Ref sig .tc := ⟨.hbm, 185, rfl⟩
abbrev main_while0b_v124 : Ref sig .tc := ⟨.hbm, 186, rfl⟩
abbrev main_while0b_v125 : Ref sig .tc := ⟨.hbm, 187, rfl⟩
abbrev main_while0b_v126 : Ref sig .tc := ⟨.hbm, 188, rfl⟩
abbrev main_while0b_v127 : Ref sig .tc := ⟨.hbm, 189, rfl⟩
abbrev main_while0b_v128 : Ref sig .tc := ⟨.hbm, 190, rfl⟩
abbrev main_while0b_v129 : Ref sig .tc := ⟨.hbm, 191, rfl⟩
abbrev main_while0b_v130 : Ref sig .tc := ⟨.hbm, 192, rfl⟩
abbrev main_while0b_v131 : Ref sig .tc := ⟨.hbm, 193, rfl⟩
abbrev main_while0b_v132 : Ref sig .tc := ⟨.hbm, 194, rfl⟩
abbrev main_while0b_cst_23 : Ref sig .tc := ⟨.hbm, 195, rfl⟩
abbrev main_while0b_v133 : Ref sig .tc := ⟨.hbm, 196, rfl⟩
abbrev main_while0b_v134 : Ref sig .tc := ⟨.hbm, 197, rfl⟩
abbrev main_while0b_v135 : Ref sig .tc := ⟨.hbm, 198, rfl⟩
abbrev main_while0b_v136 : Ref sig .tc := ⟨.hbm, 199, rfl⟩
abbrev main_while0b_v137 : Ref sig .tc := ⟨.hbm, 200, rfl⟩
abbrev main_while0b_v138 : Ref sig .tc := ⟨.hbm, 201, rfl⟩
abbrev main_while0b_v139 : Ref sig .tc := ⟨.hbm, 202, rfl⟩
abbrev main_while0b_v140 : Ref sig .tc := ⟨.hbm, 203, rfl⟩
abbrev main_while0b_v141 : Ref sig .tc := ⟨.hbm, 204, rfl⟩
abbrev main_while0b_v142 : Ref sig .tc := ⟨.hbm, 205, rfl⟩
abbrev main_while0b_v143 : Ref sig .tc := ⟨.hbm, 206, rfl⟩
abbrev main_while0b_v144 : Ref sig .tc := ⟨.hbm, 207, rfl⟩
abbrev main_while0b_v145 : Ref sig .tc := ⟨.hbm, 208, rfl⟩
abbrev main_while0b_v146 : Ref sig .tc := ⟨.hbm, 209, rfl⟩
abbrev main_while0b_v147 : Ref sig .tc := ⟨.hbm, 210, rfl⟩
abbrev main_while0b_v148 : Ref sig .tc := ⟨.hbm, 211, rfl⟩
abbrev main_while0b_cst_24 : Ref sig .tc := ⟨.hbm, 212, rfl⟩
abbrev main_while0b_v149 : Ref sig .tc := ⟨.hbm, 213, rfl⟩
abbrev main_while0b_v150 : Ref sig .tc := ⟨.hbm, 214, rfl⟩
abbrev main_while0b_v151 : Ref sig .tc := ⟨.hbm, 215, rfl⟩
abbrev main_while0b_v152 : Ref sig .tc := ⟨.hbm, 216, rfl⟩
abbrev main_while0b_v153 : Ref sig .tc := ⟨.hbm, 217, rfl⟩
abbrev main_while0b_v154 : Ref sig .tc := ⟨.hbm, 218, rfl⟩
abbrev main_while0b_v155 : Ref sig .tc := ⟨.hbm, 219, rfl⟩
abbrev main_while0b_v156 : Ref sig .tc := ⟨.hbm, 220, rfl⟩
abbrev main_while0b_v157 : Ref sig .tc := ⟨.hbm, 221, rfl⟩
abbrev main_while0b_v158 : Ref sig .tc := ⟨.hbm, 222, rfl⟩
abbrev main_while0b_v159 : Ref sig .tc := ⟨.hbm, 223, rfl⟩
abbrev main_while0b_v160 : Ref sig .tc := ⟨.hbm, 224, rfl⟩
abbrev main_while0b_v161 : Ref sig .tc := ⟨.hbm, 225, rfl⟩
abbrev main_while0b_v162 : Ref sig .tc := ⟨.hbm, 226, rfl⟩
abbrev main_while0b_v163 : Ref sig .tc := ⟨.hbm, 227, rfl⟩
abbrev main_while0b_v164 : Ref sig .tc := ⟨.hbm, 228, rfl⟩
abbrev main_while0b_v165 : Ref sig .tc := ⟨.hbm, 229, rfl⟩
abbrev main_while0b_v166 : Ref sig .tc := ⟨.hbm, 230, rfl⟩
abbrev main_while0b_v167 : Ref sig .tc := ⟨.hbm, 231, rfl⟩
abbrev main_while0b_v168 : Ref sig .tc := ⟨.hbm, 232, rfl⟩
abbrev main_while0b_cst_25 : Ref sig .tc := ⟨.hbm, 233, rfl⟩
abbrev main_while0b_v169 : Ref sig .tc := ⟨.hbm, 234, rfl⟩
abbrev main_while0b_v170 : Ref sig .tc := ⟨.hbm, 235, rfl⟩
abbrev main_while0b_call11_v0 : Ref sig .tc := ⟨.hbm, 236, rfl⟩
abbrev main_while0b_call11_c : Ref sig .tc := ⟨.hbm, 237, rfl⟩
abbrev main_while0b_call11_c_0 : Ref sig .tc := ⟨.hbm, 238, rfl⟩
abbrev main_while0b_call11_c_1 : Ref sig .tc := ⟨.hbm, 239, rfl⟩
abbrev main_while0b_call11_c_2 : Ref sig .tc := ⟨.hbm, 240, rfl⟩
abbrev main_while0b_v171 : Ref sig .tc := ⟨.hbm, 241, rfl⟩
abbrev main_while0b_c_26 : Ref sig .tc := ⟨.hbm, 242, rfl⟩
abbrev main_while0b_v172 : Ref sig .tc := ⟨.hbm, 243, rfl⟩
abbrev main_v71 : Ref sig .tc := ⟨.hbm, 244, rfl⟩
abbrev main_v72 : Ref sig .tc := ⟨.hbm, 245, rfl⟩
abbrev main_v73 : Ref sig .tc := ⟨.hbm, 246, rfl⟩
abbrev main_cst_6 : Ref sig .tc := ⟨.hbm, 247, rfl⟩
abbrev main_v74 : Ref sig .tc := ⟨.hbm, 248, rfl⟩
abbrev main_v75 : Ref sig .tc := ⟨.hbm, 249, rfl⟩
abbrev main_cst_7 : Ref sig .tc := ⟨.hbm, 250, rfl⟩
abbrev main_v76 : Ref sig .tc := ⟨.hbm, 251, rfl⟩
abbrev main_v77 : Ref sig .tc := ⟨.hbm, 252, rfl⟩
abbrev main_cst_8 : Ref sig .tc := ⟨.hbm, 253, rfl⟩
abbrev main_v78 : Ref sig .tc := ⟨.hbm, 254, rfl⟩
abbrev main_v79 : Ref sig .tc := ⟨.hbm, 255, rfl⟩
abbrev main_v80 : Ref sig .tc := ⟨.hbm, 256, rfl⟩
abbrev main_v81 : Ref sig .tc := ⟨.hbm, 257, rfl⟩
abbrev main_v82 : Ref sig .tc := ⟨.hbm, 258, rfl⟩
abbrev main_v83 : Ref sig .tc := ⟨.hbm, 259, rfl⟩
abbrev main_v84 : Ref sig .tc := ⟨.hbm, 260, rfl⟩
abbrev main_v85 : Ref sig .tc := ⟨.hbm, 261, rfl⟩
abbrev main_v86 : Ref sig .tc := ⟨.hbm, 262, rfl⟩
abbrev main_v87 : Ref sig .tc := ⟨.hbm, 263, rfl⟩
abbrev main_v88 : Ref sig .tc := ⟨.hbm, 264, rfl⟩
abbrev main_cst_9 : Ref sig .tc := ⟨.hbm, 265, rfl⟩
abbrev main_v89 : Ref sig .tc := ⟨.hbm, 266, rfl⟩
abbrev main_v90 : Ref sig .tc := ⟨.hbm, 267, rfl⟩
abbrev main_cst_10 : Ref sig .tc := ⟨.hbm, 268, rfl⟩
abbrev main_v91 : Ref sig .tc := ⟨.hbm, 269, rfl⟩
abbrev main_v92 : Ref sig .tc := ⟨.hbm, 270, rfl⟩
abbrev main_v93 : Ref sig .tc := ⟨.hbm, 271, rfl⟩
abbrev main_v94 : Ref sig .tc := ⟨.hbm, 272, rfl⟩
abbrev main_v95 : Ref sig .tc := ⟨.hbm, 273, rfl⟩
abbrev main_v96 : Ref sig .tc := ⟨.hbm, 274, rfl⟩

abbrev nD : Nat := 1
abbrev τ : Topo := Topo.v7x

variable {F : FTy → Type} [FloatOps F]

def κ : String → Option EReal := fun
  | "mask" => some ⊥
  | _ => none

abbrev main_while0_count : Scf.Loop 32 := ⟨0#32, 128#32, 1#32⟩
-- ==== Mlp.lean ====
abbrev S32768x2048 : Shape := ⟨2, ![32768, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S2048x8192 : Shape := ⟨2, ![2048, 8192]⟩
abbrev S8192x2048 : Shape := ⟨2, ![8192, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S2048x8192, .f32⟩
  | .hbm, ⟨8, _⟩ => ⟨S2048x8192, .bf16⟩
  | .hbm, ⟨9, _⟩ => ⟨S8192x2048, .f32⟩
  | .hbm, ⟨10, _⟩ => ⟨S8192x2048, .bf16⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![64, 16], ![false, false]⟩

def k0_cond2 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S32768x2048 : Shape := ⟨2, ![32768, 2048]⟩
abbrev S1x2048 : Shape := ⟨2, ![1, 2048]⟩
abbrev S1x2048x8192 : Shape := ⟨3, ![1, 2048, 8192]⟩
abbrev S1x8192x2048 : Shape := ⟨3, ![1, 8192, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x8192 : Shape := ⟨2, ![2048, 8192]⟩
abbrev S32768x8192 : Shape := ⟨2, ![32768, 8192]⟩
abbrev S8192x2048 : Shape := ⟨2, ![8192, 2048]⟩

abbrev nBuf : Space → Nat
  | .hbm => 47
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x8192, .f32⟩
  | .hbm, ⟨3, _⟩ => ⟨S1x8192x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S1x2048, .f32⟩
  | .hbm, ⟨20, _⟩ => ⟨S32768x2048, .f32⟩
  | .hbm, ⟨21, _⟩ => ⟨S32768x2048, .f32⟩
  | .hbm, ⟨22, _⟩ => ⟨S2048x8192, .f32⟩
  | .hbm, ⟨23, _⟩ => ⟨S32768x8192, .f32⟩
  | .hbm, ⟨24, _⟩ => ⟨S_, .f32⟩
  | .hbm, ⟨25, _⟩ => ⟨S32768x8192, .f32⟩
  | .hbm, ⟨26, _⟩ => ⟨S32768x8192, .f32⟩
  | .hbm, ⟨27, _⟩ => ⟨S32768x8192, .f32⟩
  | .hbm, ⟨28, _⟩ => ⟨S8192x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x2048, .f32⟩
  | .hbm, ⟨43, _⟩ => ⟨S32768x2048, .f32⟩
  | .hbm, ⟨44, _⟩ => ⟨S1x2048, .f32⟩
  | .hbm, ⟨45, _⟩ => ⟨S32768x2048, .f32⟩
  | .hbm, ⟨46, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== InprojA.lean ====
abbrev S32768x2048 : Shape := ⟨2, ![32768, 2048]⟩
abbrev S1x2048 : Shape := ⟨2, ![1, 2048]⟩
abbrev S1x2048x6688 : Shape := ⟨3, ![1, 2048, 6688]⟩
abbrev S2048 : Shape := ⟨1, ![2048]⟩
abbrev S2048x6688 : Shape := ⟨2, ![2048, 6688]⟩
abbrev S2048x2560 : Shape := ⟨2, ![2048, 2560]⟩
abbrev S_ : Shape := ⟨0, ![]⟩
abbrev S1x1024 : Shape := ⟨2, ![1, 1024]⟩
abbrev S1x1536 : Shape := ⟨2, ![1, 1536]⟩
abbrev S1x2560 : Shape := ⟨2, ![1, 2560]⟩
abbrev S32768x2560 : Shape := ⟨2, ![32768, 2560]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x6688, .f32⟩
  | .hbm, ⟨3, _⟩ => ⟨S2048, .f32⟩
  | .hbm, ⟨4, _⟩ => ⟨S2048x6688, .f32⟩
  | .hbm, ⟨5, _⟩ => ⟨S2048x2560, .f32⟩
  | .hbm, ⟨6, _⟩ => ⟨S2048x2560, .bf16⟩
  | .hbm, ⟨7, _⟩ => ⟨S_, .f32⟩
  | .hbm, ⟨8, _⟩ => ⟨S1x1024, .f32⟩
  | .hbm, ⟨9, _⟩ => ⟨S_, .f32⟩
  | .hbm, ⟨10, _⟩ => ⟨S1x1536, .f32⟩
  | .hbm, ⟨11, _⟩ => ⟨S1x2560, .f32⟩
  | .hbm, ⟨12, _⟩ => ⟨S1x2048, .f32⟩
  | .hbm, ⟨13, _⟩ => ⟨S32768x2560, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | .local _ .vmem, ⟨9, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojARefIdeal.lean ====
abbrev S32768x2048 : Shape := ⟨2, ![32768, 2048]⟩
abbrev S1x2048 : Shape := ⟨2, ![1, 2048]⟩
abbrev S1x2048x6688 : Shape := ⟨3, ![1, 2048, 6688]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x6688 : Shape := ⟨2, ![2048, 6688]⟩
abbrev S32768x6688 : Shape := ⟨2, ![32768, 6688]⟩
abbrev S32768x1024 : Shape := ⟨2, ![32768, 1024]⟩
abbrev S32768x1536 : Shape := ⟨2, ![32768, 1536]⟩
abbrev S32768x4128 : Shape := ⟨2, ![32768, 4128]⟩
abbrev S32768x2560 : Shape := ⟨2, ![32768, 2560]⟩

abbrev nBuf : Space → Nat
  | .hbm => 30
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x6688, .f32⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x6688, .f32⟩
  | .hbm, ⟨21, _⟩ => ⟨S32768x6688, .f32⟩
  | .hbm, ⟨22, _⟩ => ⟨S32768x1024, .f32⟩
  | .hbm, ⟨23, _⟩ => ⟨S32768x1536, .f32⟩
  | .hbm, ⟨24, _⟩ => ⟨S32768x4128, .f32⟩
  | .hbm, ⟨25, _⟩ => ⟨S_, .f32⟩
  | .hbm, ⟨26, _⟩ => ⟨S32768x1024, .f32⟩
  | .hbm, ⟨27, _⟩ => ⟨S32768x1024, .f32⟩
  | .hbm, ⟨28, _⟩ => ⟨S32768x2560, .f32⟩
  | .hbm, ⟨29, _⟩ => ⟨S32768x2560, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== InprojB.lean ====
abbrev S32768x2048 : Shape := ⟨2, ![32768, 2048]⟩
abbrev S1x2048 : Shape := ⟨2, ![1, 2048]⟩
abbrev S1x2048x6688 : Shape := ⟨3, ![1, 2048, 6688]⟩
abbrev S2048 : Shape := ⟨1, ![2048]⟩
abbrev S2048x6688 : Shape := ⟨2, ![2048, 6688]⟩
abbrev S2048x12 : Shape := ⟨2, ![2048, 12]⟩
abbrev S_ : Shape := ⟨0, ![]⟩
abbrev S2048x116 : Shape := ⟨2, ![2048, 116]⟩
abbrev S2048x4096 : Shape := ⟨2, ![2048, 4096]⟩
abbrev S2048x8 : Shape := ⟨2, ![2048, 8]⟩
abbrev S2048x248 : Shape := ⟨2, ![2048, 248]⟩
abbrev S2048x4608 : Shape := ⟨2, ![2048, 4608]⟩
abbrev S1x4608 : Shape := ⟨2, ![1, 4608]⟩
abbrev S32768x4608 : Shape := ⟨2, ![32768, 4608]⟩
abbrev S512x2048 : Shape := ⟨2, ![512, 2048]⟩
abbrev S2048x1536 : Shape := ⟨2, ![2048, 1536]⟩
abbrev S1x1536 : Shape := ⟨2, ![1, 1536]⟩
abbrev S512x1536 : Shape := ⟨2, ![512, 1536]⟩
abbrev S512 : Shape := ⟨1, ![512]⟩
abbrev S512x1 : Shape := ⟨2, ![512, 1]⟩

abbrev nBuf : Space → Nat
  | .hbm => 21
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x6688, .f32⟩
  | .hbm, ⟨3, _⟩ => ⟨S2048, .f32⟩
  | .hbm, ⟨4, _⟩ => ⟨S2048x6688, .f32⟩
  | .hbm, ⟨5, _⟩ => ⟨S2048x12, .f32⟩
  | .hbm, ⟨6, _⟩ => ⟨S_, .f32⟩
  | .hbm, ⟨7, _⟩ => ⟨S2048x116, .f32⟩
  | .hbm, ⟨8, _⟩ => ⟨S2048x12, .f32⟩
  | .hbm, ⟨9, _⟩ => ⟨S_, .f32⟩
  | .hbm, ⟨10, _⟩ => ⟨S2048x116, .f32⟩
  | .hbm, ⟨11, _⟩ => ⟨S2048x4096, .f32⟩
  | .hbm, ⟨12, _⟩ => ⟨S2048x8, .f32⟩
  | .hbm, ⟨13, _⟩ => ⟨S_, .f32⟩
  | .hbm, ⟨14, _⟩ => ⟨S2048x248, .f32⟩
  | .hbm, ⟨15, _⟩ => ⟨S2048x4608, .f32⟩
  | .hbm, ⟨16, _⟩ => ⟨S2048x4608, .bf16⟩
  | .hbm, ⟨17, _⟩ => ⟨S_, .f32⟩
  | .hbm, ⟨18, _⟩ => ⟨S1x4608, .f32⟩
  | .hbm, ⟨19, _⟩ => ⟨S1x2048, .f32⟩
  | .hbm, ⟨20, _⟩ => ⟨S32768x4608, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S2048x1536, .bf16⟩
  | .local _ .vmem, ⟨5, _⟩ => ⟨S1x1536, .f32⟩
  | .local _ .vmem, ⟨6, _⟩ => ⟨S1x1536, .f32⟩
  | .local _ .vmem, ⟨7, _⟩ => ⟨S512x1536, .f32⟩
  | .local _ .vmem, ⟨8, _⟩ => ⟨S512x1536, .f32⟩
  | .local _ .vmem, ⟨9, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojBRefIdeal.lean ====
abbrev S32768x2048 : Shape := ⟨2, ![32768, 2048]⟩
abbrev S1x2048 : Shape := ⟨2, ![1, 2048]⟩
abbrev S1x2048x6688 : Shape := ⟨3, ![1, 2048, 6688]⟩
abbrev S2048 : Shape := ⟨1, ![2048]⟩
abbrev S_ : Shape := ⟨0, ![]⟩
abbrev S32768 : Shape := ⟨1, ![32768]⟩
abbrev S32768x1 : Shape := ⟨2, ![32768, 1]⟩
abbrev S2048x6688 : Shape := ⟨2, ![2048, 6688]⟩
abbrev S32768x6688 : Shape := ⟨2, ![32768, 6688]⟩
abbrev S32768x24 : Shape := ⟨2, ![32768, 24]⟩
abbrev S32768x4096 : Shape := ⟨2, ![32768, 4096]⟩
abbrev S32768x8 : Shape := ⟨2, ![32768, 8]⟩
abbrev S32768x2x12 : Shape := ⟨3, ![32768, 2, 12]⟩
abbrev S32768x2x128 : Shape := ⟨3, ![32768, 2, 128]⟩
abbrev S32768x256 : Shape := ⟨2, ![32768, 256]⟩
abbrev S32768x4608 : Shape := ⟨2, ![32768, 4608]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048x6688, .f32⟩
  | .hbm, ⟨3, _⟩ => ⟨S2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S2048x6688, .f32⟩
  | .hbm, ⟨21, _⟩ => ⟨S32768x6688, .f32⟩
  | .hbm, ⟨22, _⟩ => ⟨S32768x24, .f32⟩
  | .hbm, ⟨23, _⟩ => ⟨S32768x4096, .f32⟩
  | .hbm, ⟨24, _⟩ => ⟨S32768x8, .f32⟩
  | .hbm, ⟨25, _⟩ => ⟨S32768x2x12, .f32⟩
  | .hbm, ⟨26, _⟩ => ⟨S_, .i32⟩
  | .hbm, ⟨27, _⟩ => ⟨S_, .f32⟩
  | .hbm, ⟨28, _⟩ => ⟨S32768x2x128, .f32⟩
  | .hbm, ⟨29, _⟩ => ⟨S32768x256, .f32⟩
  | .hbm, ⟨30, _⟩ => ⟨S_, .i32⟩
  | .hbm, ⟨31, _⟩ => ⟨S_, .f32⟩
  | .hbm, ⟨32, _⟩ => ⟨S32768x256, .f32⟩
  | .hbm, ⟨33, _⟩ => ⟨S32768x4608, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_call1_v0 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Outproj.lean ====
abbrev S32768x2048 : Shape := ⟨2, ![32768, 2048]⟩
abbrev S32768x1024 : Shape := ⟨2, ![32768, 1024]⟩
abbrev S1x2048x2048 : Shape := ⟨3, ![1, 2048, 2048]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S2048x2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutprojRefIdeal.lean ====
abbrev S32768x2048 : Shape := ⟨2, ![32768, 2048]⟩
abbrev S32768x1024 : Shape := ⟨2, ![32768, 1024]⟩
abbrev S1x2048x2048 : Shape := ⟨3, ![1, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S32768x1024, .f32⟩
  | .hbm, ⟨5, _⟩ => ⟨S32768x1024, .f32⟩
  | .hbm, ⟨6, _⟩ => ⟨S32768x2048, .f32⟩
  | .hbm, ⟨7, _⟩ => ⟨S2048x2048, .f32⟩
  | .hbm, ⟨8, _⟩ => ⟨S32768x2048, .f32⟩
  | .hbm, ⟨9, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Compress.lean ====
abbrev S32768x2560 : Shape := ⟨2, ![32768, 2560]⟩
abbrev S1x4096x128 : Shape := ⟨3, ![1, 4096, 128]⟩
abbrev S1x128x128 : Shape := ⟨3, ![1, 128, 128]⟩
abbrev S1x32x128 : Shape := ⟨3, ![1, 32, 128]⟩
abbrev S4096x128 : Shape := ⟨2, ![4096, 128]⟩
abbrev S128x128 : Shape := ⟨2, ![128, 128]⟩
abbrev S32x128 : Shape := ⟨2, ![32, 128]⟩
abbrev S32768x512 : Shape := ⟨2, ![32768, 512]⟩
abbrev S4x512x16x4x128 : Shape := ⟨5, ![4, 512, 16, 4, 128]⟩
abbrev S4x4x512x16x128 : Shape := ⟨5, ![4, 4, 512, 16, 128]⟩
abbrev S4x4x512x2048 : Shape := ⟨4, ![4, 4, 512, 2048]⟩
abbrev S2x4096x128 : Shape := ⟨3, ![2, 4096, 128]⟩
abbrev S2x128x128 : Shape := ⟨3, ![2, 128, 128]⟩
abbrev S2x32x128 : Shape := ⟨3, ![2, 32, 128]⟩
abbrev S2x1x4096 : Shape := ⟨3, ![2, 1, 4096]⟩
abbrev S2x8x4096 : Shape := ⟨3, ![2, 8, 4096]⟩
abbrev S4x4x512x128 : Shape := ⟨4, ![4, 4, 512, 128]⟩
abbrev S1x1x512x2048 : Shape := ⟨4, ![1, 1, 512, 2048]⟩
abbrev S1x8x4096 : Shape := ⟨3, ![1, 8, 4096]⟩
abbrev S1x1x512x128 : Shape := ⟨4, ![1, 1, 512, 128]⟩
abbrev S512x2048 : Shape := ⟨2, ![512, 2048]⟩
abbrev S2048x128 : Shape := ⟨2, ![2048, 128]⟩
abbrev S512x128 : Shape := ⟨2, ![512, 128]⟩
abbrev S8x4096 : Shape := ⟨2, ![8, 4096]⟩
abbrev S8x128 : Shape := ⟨2, ![8, 128]⟩
abbrev S1x128 : Shape := ⟨2, ![1, 128]⟩

abbrev nBuf : Space → Nat
  | .hbm => 32
  | .vmem => 10
  | .smem => 0
  | _ => 0

abbrev bufTy : (tb : Table) → Fin (tcTables nBuf tb) → BufTy
  | .hbm, ⟨0, _⟩ => ⟨S32768x2560, .bf16⟩
  | .hbm, ⟨1, _⟩ => ⟨S1x4096x128, .f32⟩
  | .hbm, ⟨2, _⟩ => ⟨S1x128x128, .f32⟩
  | .hbm, ⟨3, _⟩ => ⟨S1x32x128, .f32⟩
  | .hbm, ⟨4, _⟩ => ⟨S1x4096x128, .f32⟩
  | .hbm, ⟨5, _⟩ => ⟨S1x128x128, .f32⟩
  | .hbm, ⟨6, _⟩ => ⟨S1x32x128, .f32⟩
  | .hbm, ⟨7, _⟩ => ⟨S4096x128, .f32⟩
  | .hbm, ⟨8, _⟩ => ⟨S128x128, .f32⟩
  | .hbm, ⟨9, _⟩ => ⟨S32x128, .f32⟩
  | .hbm, ⟨10, _⟩ => ⟨S4096x128, .f32⟩
  | .hbm, ⟨11, _⟩ => ⟨S128x128, .f32⟩
  | .hbm, ⟨12, _⟩ => ⟨S32x128, .f32⟩
  | .hbm, ⟨13, _⟩ => ⟨S32768x512, .bf16⟩
  | .hbm, ⟨14, _⟩ => ⟨S4x512x16x4x128, .bf16⟩
  | .hbm, ⟨15, _⟩ => ⟨S4x4x512x16x128, .bf16⟩
  | .hbm, ⟨16, _⟩ => ⟨S4x4x512x2048, .bf16⟩
  | .hbm, ⟨17, _⟩ => ⟨S1x4096x128, .f32⟩
  | .hbm, ⟨18, _⟩ => ⟨S1x4096x128, .f32⟩
  | .hbm, ⟨19, _⟩ => ⟨S2x4096x128, .f32⟩
  | .hbm, ⟨20, _⟩ => ⟨S2x4096x128, .bf16⟩
  | .hbm, ⟨21, _⟩ => ⟨S1x128x128, .f32⟩
  | .hbm, ⟨22, _⟩ => ⟨S1x128x128, .f32⟩
  | .hbm, ⟨23, _⟩ => ⟨S2x128x128, .f32⟩
  | .hbm, ⟨24, _⟩ => ⟨S2x128x128, .bf16⟩
  | .hbm, ⟨25, _⟩ => ⟨S1x32x128, .f32⟩
  | .hbm, ⟨26, _⟩ => ⟨S1x32x128, .f32⟩
  | .hbm, ⟨27, _⟩ => ⟨S2x32x128, .f32⟩
  | .hbm, ⟨28, _⟩ => ⟨S2x1x4096, .f32⟩
  | .hbm, ⟨29, _⟩ => ⟨S2x8x4096, .f32⟩
  | .hbm, ⟨30, _⟩ => ⟨S2x8x4096, .bf16⟩
  | .hbm, ⟨31, _⟩ => ⟨S4x4x512x128, .bf16⟩
  | .local _ .vmem, ⟨0, _⟩ => ⟨S1x1x512x2048, .bf16⟩
  | .local _ .vmem, ⟨1, _⟩ => ⟨S1x1x512x2048, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x8x4096, .bf16⟩
  | .local _ .vmem, ⟨7, _⟩ => ⟨S1x8x4096, .bf16⟩
  | .local _ .vmem, ⟨8, _⟩ => ⟨S1x1x512x128, .bf16⟩
  | .local _ .vmem, ⟨9, _⟩ => ⟨S1x1x512x128, .bf16⟩
  | _, _ => ⟨S32768x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CompressRefIdeal.lean ====
abbrev S32768x2560 : Shape := ⟨2, ![32768, 2560]⟩
abbrev S1x4096x128 : Shape := ⟨3, ![1, 4096, 128]⟩
abbrev S1x128x128 : Shape := ⟨3, ![1, 128, 128]⟩
abbrev S1x32x128 : Shape := ⟨3, ![1, 32, 128]⟩
abbrev S4x8192x2560 : Shape := ⟨3, ![4, 8192, 2560]⟩
abbrev S4x8192x256 : Shape := ⟨3, ![4, 8192, 256]⟩
abbrev S4096x128 : Shape := ⟨2, ![4096, 128]⟩
abbrev S128x128 : Shape := ⟨2, ![128, 128]⟩
abbrev S32x128 : Shape := ⟨2, ![32, 128]⟩
abbrev S4x8192x2x128 : Shape := ⟨4, ![4, 8192, 2, 128]⟩
abbrev S4x2x8192x128 : Shape := ⟨4, ![4, 2, 8192, 128]⟩
abbrev S4x2x512x16x128 : Shape := ⟨5, ![4, 2, 512, 16, 128]⟩
abbrev S4x2x511x16x128 : Shape := ⟨5, ![4, 2, 511, 16, 128]⟩
abbrev S4x2x1x16x128 : Shape := ⟨5, ![4, 2, 1, 16, 128]⟩
abbrev S4x2x512x32x128 : Shape := ⟨5, ![4, 2, 512, 32, 128]⟩
abbrev S1x1x1x32x128 : Shape := ⟨5, ![1, 1, 1, 32, 128]⟩
abbrev S4x2x512x4096 : Shape := ⟨4, ![4, 2, 512, 4096]⟩
abbrev S4x2x512x128 : Shape := ⟨4, ![4, 2, 512, 128]⟩
abbrev S_ : Shape := ⟨0, ![]⟩
abbrev S4x4x512x128 : Shape := ⟨4, ![4, 4, 512, 128]⟩

abbrev nBuf : Space → Nat
  | .hbm => 64
  | .vmem => 0
  | .smem => 0
  | _ => 0

abbrev bufTy : (tb : Table) → Fin (tcTables nBuf tb) → BufTy
  | .hbm, ⟨0, _⟩ => ⟨S32768x2560, .bf16⟩
  | .hbm, ⟨1, _⟩ => ⟨S1x4096x128, .f32⟩
  | .hbm, ⟨2, _⟩ => ⟨S1x128x128, .f32⟩
  | .hbm, ⟨3, _⟩ => ⟨S1x32x128, .f32⟩
  | .hbm, ⟨4, _⟩ => ⟨S1x4096x128, .f32⟩
  | .hbm, ⟨5, _⟩ => ⟨S1x128x128, .f32⟩
  | .hbm, ⟨6, _⟩ => ⟨S1x32x128, .f32⟩
  | .hbm, ⟨7, _⟩ => ⟨S4x8192x2560, .bf16⟩
  | .hbm, ⟨8, _⟩ => ⟨S4x8192x256, .bf16⟩
  | .hbm, ⟨9, _⟩ => ⟨S4096x128, .f32⟩
  | .hbm, ⟨10, _⟩ => ⟨S128x128, .f32⟩
  | .hbm, ⟨11, _⟩ => ⟨S32x128, .f32⟩
  | .hbm, ⟨12, _⟩ => ⟨S4x8192x2x128, .bf16⟩
  | .hbm, ⟨13, _⟩ => ⟨S4x2x8192x128, .bf16⟩
  | .hbm, ⟨14, _⟩ => ⟨S4x2x8192x128, .f32⟩
  | .hbm, ⟨15, _⟩ => ⟨S4x2x512x16x128, .f32⟩
  | .hbm, ⟨16, _⟩ => ⟨S4x2x511x16x128, .f32⟩
  | .hbm, ⟨17, _⟩ => ⟨S4x2x1x16x128, .f32⟩
  | .hbm, ⟨18, _⟩ => ⟨S4x2x512x16x128, .f32⟩
  | .hbm, ⟨19, _⟩ => ⟨S4x2x512x32x128, .f32⟩
  | .hbm, ⟨20, _⟩ => ⟨S1x1x1x32x128, .f32⟩
  | .hbm, ⟨21, _⟩ => ⟨S4x2x512x32x128, .f32⟩
  | .hbm, ⟨22, _⟩ => ⟨S4x2x512x32x128, .f32⟩
  | .hbm, ⟨23, _⟩ => ⟨S4x2x512x4096, .f32⟩
  | .hbm, ⟨24, _⟩ => ⟨S4x2x512x128, .f32⟩
  | .hbm, ⟨25, _⟩ => ⟨S4x2x512x128, .f32⟩
  | .hbm, ⟨26, _⟩ => ⟨S4x2x512x128, .f32⟩
  | .hbm, ⟨27, _⟩ => ⟨S_, .f32⟩
  | .hbm, ⟨28, _⟩ => ⟨S4x2x512x128, .f32⟩
  | .hbm, ⟨29, _⟩ => ⟨S4x2x512x128, .f32⟩
  | .hbm, ⟨30, _⟩ => ⟨S_, .f32⟩
  | .hbm, ⟨31, _⟩ => ⟨S4x2x512x128, .f32⟩
  | .hbm, ⟨32, _⟩ => ⟨S4x2x512x128, .f32⟩
  | .hbm, ⟨33, _⟩ => ⟨S4x2x512x128, .f32⟩
  | .hbm, ⟨34, _⟩ => ⟨S4x2x512x128, .f32⟩
  | .hbm, ⟨35, _⟩ => ⟨S4x8192x256, .bf16⟩
  | .hbm, ⟨36, _⟩ => ⟨S4096x128, .f32⟩
  | .hbm, ⟨37, _⟩ => ⟨S128x128, .f32⟩
  | .hbm, ⟨38, _⟩ => ⟨S32x128, .f32⟩
  | .hbm, ⟨39, _⟩ => ⟨S4x8192x2x128, .bf16⟩
  | .hbm, ⟨40, _⟩ => ⟨S4x2x8192x128, .bf16⟩
  | .hbm, ⟨41, _⟩ => ⟨S4x2x8192x128, .f32⟩
  | .hbm, ⟨42, _⟩ => ⟨S4x2x512x16x128, .f32⟩
  | .hbm, ⟨43, _⟩ => ⟨S4x2x511x16x128, .f32⟩
  | .hbm, ⟨44, _⟩ => ⟨S4x2x1x16x128, .f32⟩
  | .hbm, ⟨45, _⟩ => ⟨S4x2x512x16x128, .f32⟩
  | .hbm, ⟨46, _⟩ => ⟨S4x2x512x32x128, .f32⟩
  | .hbm, ⟨47, _⟩ => ⟨S1x1x1x32x128, .f32⟩
  | .hbm, ⟨48, _⟩ => ⟨S4x2x512x32x128, .f32⟩
  | .hbm, ⟨49, _⟩ => ⟨S4x2x512x32x128, .f32⟩
  | .hbm, ⟨50, _⟩ => ⟨S4x2x512x4096, .f32⟩
  | .hbm, ⟨51, _⟩ => ⟨S4x2x512x128, .f32⟩
  | .hbm, ⟨52, _⟩ => ⟨S4x2x512x128, .f32⟩
  | .hbm, ⟨53, _⟩ => ⟨S4x2x512x128, .f32⟩
  | .hbm, ⟨54, _⟩ => ⟨S_, .f32⟩
  | .hbm, ⟨55, _⟩ => ⟨S4x2x512x128, .f32⟩
  | .hbm, ⟨56, _⟩ => ⟨S4x2x512x128, .f32⟩
  | .hbm, ⟨57, _⟩ => ⟨S_, .f32⟩
  | .hbm, ⟨58, _⟩ => ⟨S4x2x512x128, .f32⟩
  | .hbm, ⟨59, _⟩ => ⟨S4x2x512x128, .f32⟩
  | .hbm, ⟨60, _⟩ => ⟨S4x2x512x128, .f32⟩
  | .hbm, ⟨61, _⟩ => ⟨S4x2x512x128, .f32⟩
  | .hbm, ⟨62, _⟩ => ⟨S4x4x512x128, .f32⟩
  | .hbm, ⟨63, _⟩ => ⟨S4x4x512x128, .bf16⟩
  | _, _ => ⟨S32768x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Proof.Mlstm.RefFrame.lean ====
module

public import proofs.«01_k».proof.Defs
public import proofs.«01_k».proof.Proof.Gen.MlstmRefIdeal.Run
public import Idealize.ShloMosaic.Lib.Quiescent

/-!
The recurrence's reference: what it never writes it leaves as it was. One list of every buffer written anywhere in the
program; a buffer off that list is unchanged by the lines before the loop, by each trip, and by the line after it.
-/

@[expose] public section

set_option maxRecDepth 16384

noncomputable section

open Idealize.ShloMosaic Idealize.ShloMosaic.TcCoe Idealize.SL.Sem Idealize.ShloMosaic.StableHlo
open Cert.MlstmRefIdeal Cert.MlstmRefIdeal.Gen Cert.MlstmRefIdeal.Value

namespace Cert.MlstmRefIdeal.Keep

variable {F : FTy → Type} [FloatOps F]

abbrev before : List (Ref sig .tc) :=
  hostOps0_W ++ hostOps0_1_W ++ hostOps0_2_W ++ hostOps0_3_W ++ hostOps0_4_W ++ hostOps0_5_W ++ hostOps0_6_W ++ hostOps0_7_W ++ hostOps0_8_W

abbrev within : List (Ref sig .tc) :=
  while0Ops0_W ++ while0Ops0_1_W ++ while0Ops0_2_W ++ while0Ops0_3_W ++ while0Ops0_4_W ++ while0Ops0_5_W ++ while0Ops0_6_W
    ++ while0Ops0_7_W ++ while0Ops0_8_W ++ while0Ops0_9_W ++ while0Ops0_10_W ++ condOps_W

theorem entry (m : (ℓ : Loc nD τ sig) → Buf (Elt F) ℓ) (c : Dev nD) {r : Ref sig .tc} (h : r ∉ before) :
    entryContents preI m c (Proc.devRef .tc r) = m ((c.tc : Thread nD τ).loc r) := by
  simp only [before, List.mem_append, not_or] at h
  obtain ⟨⟨⟨⟨⟨⟨⟨⟨h0, h1⟩, h2⟩, h3⟩, h4⟩, h5⟩, h6⟩, h7⟩, h8⟩ := h
  simp only [entryContents, preI, afterL_cons, afterL_nil]
  rw [after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

theorem trip (V : Valuation τ sig (Elt F)) {r : Ref sig .tc} (h : r ∉ within) :
    afterL bodyI (after condOps V) (Proc.devRef .tc r) = V (Proc.devRef .tc r) := by
  simp only [within, List.mem_append, not_or] at h
  obtain ⟨⟨⟨⟨⟨⟨⟨⟨⟨⟨⟨h0, h1⟩, h2⟩, h3⟩, h4⟩, h5⟩, h6⟩, h7⟩, h8⟩, h9⟩, h10⟩, hc⟩ := h
  simp only [bodyI, afterL_cons, afterL_nil]
  rw [after_of_writes_sub _ _ while0Ops0_10_writes h10, after_of_writes_sub _ _ while0Ops0_9_writes h9,
    after_of_writes_sub _ _ while0Ops0_8_writes h8, after_of_writes_sub _ _ while0Ops0_7_writes h7,
    after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]

theorem trips (m : (ℓ : Loc nD τ sig) → Buf (Elt F) ℓ) (c : Dev nD) {r : Ref sig .tc} (hb : r ∉ before) (h : r ∉ within) :
    ∀ k, atTrip condOps bodyI (entryContents preI m) k c (Proc.devRef .tc r) = m ((c.tc : Thread nD τ).loc r)
  | 0 => entry m c hb
  | k + 1 => by rw [atTrip_succ, trip _ h]; exact trips m c hb h k

abbrev last : List (Ref sig .tc) :=
  [main_v71, main_v72, main_v73, main_cst_6, main_v74, main_v75, main_cst_7, main_v76, main_v77, main_cst_8, main_v78, main_v79, main_v80, main_v81, main_v82, main_v83, main_v84, main_v85, main_v86, main_v87, main_v88, main_cst_9, main_v89, main_v90, main_cst_10, main_v91, main_v92, main_v93, main_v94, main_v95, main_v96]

theorem last_writes : (hostOps0_9 : List (HloOp τ sig (Elt F))).Forall fun op => op.writes ⊆ (last.map (Proc.devRef (τ := τ) .tc)).toFinset :=
  StableHlo.forall_writes_sub_of_map rfl

theorem final (m : (ℓ : Loc nD τ sig) → Buf (Elt F) ℓ) (c : Dev nD) {r : Ref sig .tc} (hb : r ∉ before) (h : r ∉ within)
    (hl : r ∉ last) :
    finalContents condOps preI bodyI postI 128 m c (Proc.devRef .tc r) = m ((c.tc : Thread nD τ).loc r) := by
  have hc : r ∉ condOps_W := fun hm => h (List.mem_append_right _ hm)
  simp only [finalContents, postI, afterL_cons, afterL_nil]
  rw [after_of_writes_sub _ _ last_writes hl, after_of_writes_sub _ _ condOps_writes hc, trips m c hb h]

/-- The reference leaves its arguments as they were and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := F)) _ _).mono (fun r h => ⟨fun c => ⟨
      (h c main_arg0 rfl).trans (final m c (by decide +kernel) (by decide +kernel) (by decide +kernel)),
      (h c main_arg1 rfl).trans (final m c (by decide +kernel) (by decide +kernel) (by decide +kernel)),
      (h c main_arg2 rfl).trans (final m c (by decide +kernel) (by decide +kernel) (by decide +kernel)),
      (h c main_arg3 rfl).trans (final m c (by decide +kernel) (by decide +kernel) (by decide +kernel)),
      (h c main_arg4 rfl).trans (final m c (by decide +kernel) (by decide +kernel) (by decide +kernel)),
      (h c main_arg5 rfl).trans (final m c (by decide +kernel) (by decide +kernel) (by decide +kernel))⟩,
      sem_eq_zero_of_no_sems (by decide) r.2⟩) (run_fold m ρ)

end Cert.MlstmRefIdeal.Keep

end
-- ==== Proof.Frames.lean ====
module

public import proofs.«01_k».proof.Defs
public import proofs.«01_k».proof.Proof.Gen.Mlstm.Frame
public import proofs.«01_k».proof.Proof.Gen.MlstmIdeal.Value
public import proofs.«01_k».proof.Proof.Mlstm.RefFrame
public import proofs.«01_k».proof.Proof.Gen.Mlp.Frame
public import proofs.«01_k».proof.Proof.Gen.MlpIdeal.Value
public import proofs.«01_k».proof.Proof.Gen.MlpRefIdeal.Run
public import Idealize.ShloMosaic.Lib.Quiescent

/-!
Every program terminates, leaves its arguments as they were and its semaphores at zero; and the named constant of the
recurrence is the one the certificate's table gives.
-/

@[expose] public section

noncomputable section

open Idealize.ShloMosaic Idealize.SL.Sem

namespace Cert.Proof

theorem frame_mlstm : Cert.quiescent_Mlstm := fun m g _ => Cert.Mlstm.Gen.frame m g

theorem frame_mlstm_ideal : Cert.quiescent_MlstmIdeal := fun m g _ => Cert.MlstmIdeal.Gen.frame m g

theorem frame_mlstm_ref : Cert.quiescent_MlstmRefIdeal := fun m g _ => Cert.MlstmRefIdeal.Keep.frame m g

theorem frame_mlp : Cert.quiescent_Mlp := fun m g _ => Cert.Mlp.Gen.frame m g

theorem frame_mlp_ideal : Cert.quiescent_MlpIdeal := fun m g _ => Cert.MlpIdeal.Gen.frame m g

theorem frame_mlp_ref : Cert.quiescent_MlpRefIdeal := fun m g _ =>
  (θ_run Cert.MlpRefIdeal.defs _ _).mono (fun r h => ⟨fun c => (h c).2, sem_eq_zero_of_no_sems (by decide) r.2⟩)
    (Cert.MlpRefIdeal.Value.run (F := Ideal) m g)

theorem preserves_mlstm : Cert.preserves_Mlstm_MlstmIdeal :=
  IdealRules.named_const.statement Cert.MlstmIdeal.κ "mask" .f32 0xF149F2CA#32 ⊥ rfl

end Cert.Proof

end
-- ==== Proof.Frames2.lean ====
module

public import proofs.«01_k».proof.Defs
public import proofs.«01_k».proof.Proof.Gen.InprojA.Frame
public import proofs.«01_k».proof.Proof.Gen.InprojAIdeal.Value
public import proofs.«01_k».proof.Proof.Gen.InprojARefIdeal.Run
public import proofs.«01_k».proof.Proof.Gen.InprojB.Frame
public import proofs.«01_k».proof.Proof.Gen.InprojBIdeal.Value
public import proofs.«01_k».proof.Proof.Gen.InprojBRefIdeal.Run
public import proofs.«01_k».proof.Proof.Gen.Outproj.Frame
public import proofs.«01_k».proof.Proof.Gen.OutprojIdeal.Value
public import proofs.«01_k».proof.Proof.Gen.OutprojRefIdeal.Run
public import Idealize.ShloMosaic.Lib.Quiescent

/-!
The programs of the two projections terminate, leave their arguments as they were and their semaphores at zero.
-/

@[expose] public section

noncomputable section

open Idealize.ShloMosaic Idealize.SL.Sem

namespace Cert.Proof

theorem frame_inproj_a : Cert.quiescent_InprojA := fun m g _ => Cert.InprojA.Gen.frame m g

theorem frame_inproj_a_ideal : Cert.quiescent_InprojAIdeal := fun m g _ => Cert.InprojAIdeal.Gen.frame m g

theorem frame_inproj_a_ref : Cert.quiescent_InprojARefIdeal := fun m g _ =>
  (θ_run Cert.InprojARefIdeal.defs _ _).mono (fun r h => ⟨fun c => (h c).2, sem_eq_zero_of_no_sems (by decide) r.2⟩)
    (Cert.InprojARefIdeal.Value.run (F := Ideal) m g)

theorem frame_inproj_b : Cert.quiescent_InprojB := fun m g _ => Cert.InprojB.Gen.frame m g

theorem frame_inproj_b_ideal : Cert.quiescent_InprojBIdeal := fun m g _ => Cert.InprojBIdeal.Gen.frame m g

theorem frame_inproj_b_ref : Cert.quiescent_InprojBRefIdeal := fun m g _ =>
  (θ_run Cert.InprojBRefIdeal.defs _ _).mono (fun r h => ⟨fun c => (h c).2, sem_eq_zero_of_no_sems (by decide) r.2⟩)
    (Cert.InprojBRefIdeal.Value.run (F := Ideal) m g)

theorem frame_outproj : Cert.quiescent_Outproj := fun m g _ => Cert.Outproj.Gen.frame m g

theorem frame_outproj_ideal : Cert.quiescent_OutprojIdeal := fun m g _ => Cert.OutprojIdeal.Gen.frame m g

theorem frame_outproj_ref : Cert.quiescent_OutprojRefIdeal := fun m g _ =>
  (θ_run Cert.OutprojRefIdeal.defs _ _).mono (fun r h => ⟨fun c => (h c).2, sem_eq_zero_of_no_sems (by decide) r.2⟩)
    (Cert.OutprojRefIdeal.Value.run (F := Ideal) m g)

end Cert.Proof

end
-- ==== Proof.Cmp.Spec.lean ====
module

public import Idealize.ShloMosaic.Lib.Pipeline.ValueKit
public import Idealize.ShloMosaic.Lib.Pointwise

/-!
The compression of a block of positions to one row: two halves of 2048 numbers, each with a position's number added, against
a first weight, the sigmoid unit, and a second weight. The reference adds the positions before the product, the kernel after
it; where positions and weights are numbers these agree.
-/

@[expose] public section

noncomputable section

open Idealize.ShloMosaic
open scoped BigOperators

namespace Cert.CmpSpec

/-- The sigmoid unit. -/
def unit (x : EReal) : EReal := x * Ideal.div 1 (1 + Ideal.exp (-x))

/-- A number, and not an infinity. -/
def Num (x : EReal) : Prop := x ≠ ⊤ ∧ x ≠ ⊥

/-- A number's product with a sum of anything and a number is the sum of the products. -/
theorem add_mul_num (a : EReal) {b c : EReal} (hb : Num b) (hc : Num c) : (a + b) * c = a * c + b * c := by
  lift b to ℝ using hb
  lift c to ℝ using hc
  induction a with
  | coe a => rw [← EReal.coe_add, ← EReal.coe_mul, ← EReal.coe_mul, ← EReal.coe_mul, ← EReal.coe_add, add_mul]
  | top =>
    rw [EReal.top_add_coe, ← EReal.coe_mul]
    rcases lt_trichotomy c 0 with h | h | h
    · rw [EReal.top_mul_coe_of_neg h, EReal.bot_add]
    · subst h; simp
    · rw [EReal.top_mul_coe_of_pos h, EReal.top_add_coe]
  | bot =>
    rw [EReal.bot_add, ← EReal.coe_mul]
    rcases lt_trichotomy c 0 with h | h | h
    · rw [EReal.bot_mul_coe_of_neg h, EReal.top_add_coe]
    · subst h; simp
    · rw [EReal.bot_mul_coe_of_pos h, EReal.bot_add]

theorem num_of_abs {x : EReal} (h : max x (-x) < ⊤) : Num x :=
  ⟨fun e => absurd h (by simp [e]), fun e => absurd h (by simp [e])⟩

/-- A block's numbers: the first half `x`, the second half `y`. -/
def both (x y : Fin 2048 → EReal) (k : Fin 4096) : EReal := if h : k.val < 2048 then x ⟨k.val, h⟩ else y ⟨k.val - 2048, by omega⟩

/-- The product of a block with one column of the first weight, the positions added to the block. -/
def pre (x y : Fin 2048 → EReal) (p w : Fin 4096 → EReal) : EReal := ∑ k, (both x y k + p k) * w k

/-- The same, the positions' product apart and each half's apart. -/
def pre' (x y : Fin 2048 → EReal) (p w : Fin 4096 → EReal) : EReal :=
  (∑ f : Fin 2048, x f * w ⟨f.val, by omega⟩) + (∑ f : Fin 2048, y f * w ⟨2048 + f.val, by omega⟩) + ∑ k, p k * w k

theorem pre_eq (x y : Fin 2048 → EReal) {p w : Fin 4096 → EReal} (hp : ∀ k, Num (p k)) (hw : ∀ k, Num (w k)) :
    pre x y p w = pre' x y p w := by
  unfold pre pre'
  rw [Finset.sum_congr rfl fun k _ => add_mul_num (both x y k) (hp k) (hw k), Finset.sum_add_distrib]
  refine congrArg (· + _) ?_
  refine (Fin.sum_univ_add (a := 2048) (b := 2048) fun k : Fin 4096 => both x y k * w k).trans ?_
  refine congrArg₂ (· + ·) (Finset.sum_congr rfl fun f _ => ?_) (Finset.sum_congr rfl fun f _ => ?_)
  · have e : both x y (Fin.castAdd 2048 f) = x f := by simp [both]
    rw [e]
    rfl
  · have e : both x y (Fin.natAdd 2048 f) = y f := by simp [both]
    rw [e]
    rfl

end Cert.CmpSpec

end
-- ==== Proof.Cmp.Ref.lean ====
module

public import proofs.«01_k».proof.Defs
public import proofs.«01_k».proof.Proof.Cmp.Spec
public import proofs.«01_k».proof.Proof.Gen.CompressRefIdeal.Run
public import Idealize.ShloMosaic.Lib.Pipeline.ValueKit
public import Idealize.ShloMosaic.Lib.Pointwise

/-!
The compressed keys and values as the reference computes them, read index by index.
-/

@[expose] public section

set_option maxRecDepth 16384

noncomputable section

open Idealize.ShloMosaic Idealize.ShloMosaic.TcCoe Idealize.SL.Sem

namespace Cert.CompressRefIdeal.Rows

open Cert.CompressRefIdeal Cert.CompressRefIdeal.Gen Cert.CmpSpec

variable (Z : FVec Ideal S4x8192x256 .bf16) (W1 : FVec Ideal S1x4096x128 .f32) (W2 : FVec Ideal S1x128x128 .f32) (P : FVec Ideal S1x32x128 .f32)

/-- The columns by group, in runs of sixteen positions. -/
def sub : FVec Ideal S4x2x512x16x128 .f32 :=
  shapeCast _ (extf .f32 (transpose S4x2x8192x128 [0, 2, 1, 3] (shapeCast _ Z shapeCasts_S4x8192x256_S4x8192x2x128) transposes_S4x8192x2x128_S4x2x8192x128_0_2_1_3) bitsLt_bf16_f32) shapeCasts_S4x2x8192x128_S4x2x512x16x128

theorem sub_at (i : Fin 4) (g : Fin 2) (n : Fin 512) (r : Fin 16) (d : Fin 128) :
    sub Z (ix5 i g n r d) = Z (ix3 i ⟨n.val * 16 + r.val, by omega⟩ ⟨g.val * 128 + d.val, by omega⟩) := by
  pointwise [sub]

/-- Each run and the run after it, the first after the last. -/
def win : FVec Ideal S4x2x512x32x128 .f32 :=
  concatenate S4x2x512x32x128 3 [⟨S4x2x512x16x128, sub Z⟩, ⟨S4x2x512x16x128, (concatenate S4x2x512x16x128 2 [⟨S4x2x511x16x128, (extractStridedSlice S4x2x511x16x128 ![0, 0, 1, 0, 0] (sub Z) slices_S4x2x512x16x128_S4x2x511x16x128_0_0_1_0_0)⟩, ⟨S4x2x1x16x128, (extractStridedSlice S4x2x1x16x128 ![0, 0, 0, 0, 0] (sub Z) slices_S4x2x512x16x128_S4x2x1x16x128_0_0_0_0_0)⟩] concatenates_S4x2x511x16x128_S4x2x1x16x128_S4x2x512x16x128_d2)⟩] concatenates_S4x2x512x16x128_S4x2x512x16x128_S4x2x512x32x128_d3

theorem win_at (i : Fin 4) (g : Fin 2) (n : Fin 512) (r : Fin 32) (d : Fin 128) :
    win Z (ix5 i g n r d) = if h : r.val < 16 then sub Z (ix5 i g n ⟨r.val, h⟩ d)
      else sub Z (ix5 i g ⟨(n.val + 1) % 512, Nat.mod_lt _ (by decide)⟩ ⟨r.val - 16, by omega⟩ d) := by
  pointwise [win]
  refine dite_congr rfl (fun h => rfl) fun h => ?_
  by_cases h' : n.val < 511
  · rw [dif_pos h']
    exact congrArg (fun n => sub Z (ix5 i g n _ d)) (Fin.ext (by dsimp only; omega))
  · rw [dif_neg h']
    exact congrArg (fun n => sub Z (ix5 i g n _ d)) (Fin.ext (by dsimp only; omega))

/-- The blocks with their positions. -/
def blk : FVec Ideal S4x2x512x4096 .f32 :=
  shapeCast _ (addf (win Z) (broadcastInDim S4x2x512x32x128 ![0, 1, 2, 3, 4] bcast_S1x1x1x32x128_S4x2x512x32x128_0_1_2_3_4 (broadcastInDim S1x1x1x32x128 ![3, 4] bcast_S32x128_S1x1x1x32x128_3_4 (shapeCast _ P shapeCasts_S1x32x128_S32x128)))) shapeCasts_S4x2x512x32x128_S4x2x512x4096

/-- The numbers of run `n`. -/
def run (i : Fin 4) (g : Fin 2) (n : Fin 512) (f : Fin 2048) : EReal :=
  Z (ix3 i ⟨n.val * 16 + f.val / 128, by omega⟩ ⟨g.val * 128 + f.val % 128, by omega⟩)

theorem blk_at (i : Fin 4) (g : Fin 2) (n : Fin 512) (k : Fin 4096) :
    blk Z P (ix4 i g n k) = both (run Z i g n) (run Z i g ⟨(n.val + 1) % 512, Nat.mod_lt _ (by decide)⟩) k
      + P (ix3 0 ⟨k.val / 128, by omega⟩ ⟨k.val % 128, by omega⟩) := by
  have e : blk Z P (ix4 i g n k) = win Z (ix5 i g n ⟨k.val / 128, by omega⟩ ⟨k.val % 128, by omega⟩)
      + P (ix3 0 ⟨k.val / 128, by omega⟩ ⟨k.val % 128, by omega⟩) := by
    pointwise [blk]
  rw [e, win_at]
  refine congrArg (· + _) ?_
  unfold both run
  by_cases h : k.val < 2048
  · rw [dif_pos (by dsimp only; omega), dif_pos h, sub_at]
  · rw [dif_neg (by dsimp only; omega), dif_neg h, sub_at]
    congr 2 <;> exact Fin.ext (by dsimp only; omega)

/-- The first product. -/
def first : FVec Ideal S4x2x512x128 .f32 :=
  Host.dotGeneral dot_S4x2x512x4096_S4096x128_S4x2x512x128_3_0_012_1_n_n none (blk Z P) (shapeCast _ W1 shapeCasts_S1x4096x128_S4096x128)

theorem first_at (i : Fin 4) (g : Fin 2) (n : Fin 512) (d : Fin 128) :
    first Z W1 P (ix4 i g n d) = pre (run Z i g n) (run Z i g ⟨(n.val + 1) % 512, Nat.mod_lt _ (by decide)⟩)
      (fun k => P (ix3 0 ⟨k.val / 128, by omega⟩ ⟨k.val % 128, by omega⟩)) (fun k => W1 (ix3 0 k d)) := by
  have e : first Z W1 P (ix4 i g n d) = ∑ k, blk Z P (ix4 i g n k) * W1 (ix3 0 k d) := by pointwise [first]
  rw [e, pre]
  exact Finset.sum_congr rfl fun k _ => by rw [blk_at]

/-- The sigmoid unit and the second product. -/
def act (H : FVec Ideal S4x2x512x128 .f32) : FVec Ideal S4x2x512x128 .f32 :=
  Host.dotGeneral dot_S4x2x512x128_S128x128_S4x2x512x128_3_0_012_1_n_n none (mulf H (Host.divf (broadcastInDim S4x2x512x128 ![] bcast_S_S4x2x512x128 (constant S_ .f32 0x3F800000#32)) (addf (broadcastInDim S4x2x512x128 ![] bcast_S_S4x2x512x128 (constant S_ .f32 0x3F800000#32)) (Host.exp (Host.negf H))))) (shapeCast _ W2 shapeCasts_S1x128x128_S128x128)

theorem act_at (H : FVec Ideal S4x2x512x128 .f32) (i : Fin 4) (g : Fin 2) (n : Fin 512) (e : Fin 128) :
    act W2 H (ix4 i g n e) = ∑ d, unit (H (ix4 i g n d)) * W2 (ix3 0 d e) := by
  unfold unit
  pointwise [act]

/-- One of the two compressions. -/
def half : FVec Ideal S4x2x512x128 .f32 := act W2 (first Z W1 P)

theorem half_at (i : Fin 4) (g : Fin 2) (n : Fin 512) (e : Fin 128) :
    half Z W1 W2 P (ix4 i g n e) = ∑ d, unit (first Z W1 P (ix4 i g n d)) * W2 (ix3 0 d e) := act_at W2 _ i g n e

variable (X : FVec Ideal S32768x2560 .bf16) (V1 : FVec Ideal S1x4096x128 .f32) (V2 : FVec Ideal S1x128x128 .f32) (Q : FVec Ideal S1x32x128 .f32)

/-- The keys' columns. -/
def keys : FVec Ideal S4x8192x256 .bf16 :=
  extractStridedSlice S4x8192x256 ![0, 0, 1024] (shapeCast _ X shapeCasts_S32768x2560_S4x8192x2560) slices_S4x8192x2560_S4x8192x256_0_0_1024

/-- The values' columns. -/
def vals : FVec Ideal S4x8192x256 .bf16 :=
  extractStridedSlice S4x8192x256 ![0, 0, 1280] (shapeCast _ X shapeCasts_S32768x2560_S4x8192x2560) slices_S4x8192x2560_S4x8192x256_0_0_1280

theorem keys_at (i : Fin 4) (s : Fin 8192) (l : Fin 256) :
    keys X (ix3 i s l) = X (ix2 ⟨i.val * 8192 + s.val, by omega⟩ ⟨1024 + l.val, by omega⟩) := by
  pointwise [keys]

theorem vals_at (i : Fin 4) (s : Fin 8192) (l : Fin 256) :
    vals X (ix3 i s l) = X (ix2 ⟨i.val * 8192 + s.val, by omega⟩ ⟨1280 + l.val, by omega⟩) := by
  pointwise [vals]

/-- The reference as one function of its arguments. -/
def ref : FVec Ideal S4x4x512x128 .bf16 :=
  truncf .bf16 (concatenate S4x4x512x128 1 [⟨S4x2x512x128, half (keys X) W1 W2 P⟩, ⟨S4x2x512x128, half (vals X) V1 V2 Q⟩] concatenates_S4x2x512x128_S4x2x512x128_S4x4x512x128_d1) bitsLt_bf16_f32

/-- The numbers of run `n` of column group `l`. -/
def row (i l : Fin 4) (n : Fin 512) (f : Fin 2048) : EReal :=
  X (ix2 ⟨i.val * 8192 + (n.val * 16 + f.val / 128), by omega⟩ ⟨1024 + (l.val * 128 + f.val % 128), by omega⟩)

/-- The compression of run `n`, its first weight `w1`, its second `w2` and its positions `p`. -/
def out (i l : Fin 4) (n : Fin 512) (w1 : Fin 4096 → Fin 128 → EReal) (w2 : Fin 128 → EReal) (p : Fin 4096 → EReal) : EReal :=
  ∑ d, unit (pre (row X i l n) (row X i l ⟨(n.val + 1) % 512, Nat.mod_lt _ (by decide)⟩) p (fun k => w1 k d)) * w2 d

theorem ref_at (i l : Fin 4) (n : Fin 512) (e : Fin 128) :
    ref W1 W2 P X V1 V2 Q (ix4 i l n e) = if l.val < 2
      then out X i l n (fun k d => W1 (ix3 0 k d)) (fun d => W2 (ix3 0 d e)) (fun k => P (ix3 0 ⟨k.val / 128, by omega⟩ ⟨k.val % 128, by omega⟩))
      else out X i l n (fun k d => V1 (ix3 0 k d)) (fun d => V2 (ix3 0 d e)) (fun k => Q (ix3 0 ⟨k.val / 128, by omega⟩ ⟨k.val % 128, by omega⟩)) := by
  pointwise [ref]
  by_cases h : l.val < 2
  · rw [dif_pos h, if_pos h, half_at]
    have hr : ∀ n f, run (keys X) i ⟨l.val, h⟩ n f = row X i l n f := fun n f => by
      unfold run row
      rw [keys_at]
    refine Finset.sum_congr rfl fun d _ => ?_
    rw [first_at, funext (hr n), funext (hr _)]
  · rw [dif_neg h, if_neg h, half_at]
    have hr : ∀ n f, run (vals X) i ⟨l.val - 2, by omega⟩ n f = row X i l n f := fun n f => by
      unfold run row
      rw [vals_at]
      congr 2 <;> exact Fin.ext (by dsimp only; omega)
    refine Finset.sum_congr rfl fun d _ => ?_
    rw [first_at, funext (hr n), funext (hr _)]

end Cert.CompressRefIdeal.Rows

end
-- ==== Proof.Cmp.Claims.lean ====
module

public import proofs.«01_k».proof.Defs
public import proofs.«01_k».proof.Proof.Cmp.Ref
public import proofs.«01_k».proof.Proof.Gen.Compress.Frame
public import proofs.«01_k».proof.Proof.Gen.CompressIdeal.Value
public import proofs.«01_k».proof.Proof.Gen.CompressRefIdeal.Run
public import proofs.«01_k».proof.Proof.Gen.Pre_finite
public import Idealize.ShloMosaic.Lib.Pipeline.ValueKit
public import Idealize.ShloMosaic.Lib.Pointwise
public import Idealize.ShloMosaic.Lib.ReduceAll
public import Idealize.ShloMosaic.Lib.Quiescent

/-!
The compression call: one grid point a batch and column group, whose 512 blocks it compresses against the keys' or the values'
weights. Its rows are the reference's where the first weights and the positions are numbers, which is the precondition.
-/

@[expose] public section

set_option maxRecDepth 16384

noncomputable section

open Idealize.ShloMosaic Idealize.ShloMosaic.TcCoe Idealize.SL.Sem
open Idealize.ShloMosaic.Pipeline (Dat)

namespace Cert.CompressIdeal.Rows

open Cert.CompressIdeal Cert.CompressIdeal.Gen Cert.CmpSpec

theorem pay1_at (x : Vec Ideal S1x1x512x2048 .bf16) (w1 : Vec Ideal S1x4096x128 .bf16) (p : Vec Ideal S1x8x4096 .bf16) (w2 : Vec Ideal S1x128x128 .bf16)
    (n : Fin 512) (e : Fin 128) :
    k0_pay1 (F := Ideal) x w1 p w2 (ix4 0 0 n e) = ∑ d : Fin 128, unit (pre' (fun f => x (ix4 0 0 n f)) (fun f => x (ix4 0 0 ⟨(n.val + 1) % 512, Nat.mod_lt _ (by decide)⟩ f))
      (fun k => p (ix3 0 0 k)) (fun k => w1 (ix3 0 k d))) * w2 (ix3 0 d e) := by
  unfold unit pre'
  pointwise [k0_pay1]
  have hn : ∀ h, (⟨(n.val + 512 - 511) % 512, h⟩ : Fin 512) = ⟨(n.val + 1) % 512, Nat.mod_lt _ (by decide)⟩ := fun _ => Fin.ext (by dsimp only; omega)
  simp only [zero_sub, hn]

theorem idx0 : ∀ t : Fin cfg0.N, win0_0.index t = ![t.val / 4, t.val % 4, 0, 0] ∧ win0_1.index t = ![t.val % 4 / 2, 0, 0] ∧ win0_2.index t = ![t.val % 4 / 2, 0, 0]
    ∧ win0_3.index t = ![t.val % 4 / 2, 0, 0] ∧ win0_4.index t = ![t.val / 4, t.val % 4, 0, 0] :=
  (by decide +kernel : ∀ t : Fin grid0.N, _)

variable (m : (ℓ : Loc nD τ sig) → Buf (Elt Ideal) ℓ)

theorem in0 (c : Dev nD) (t : Fin cfg0.N) (n : Fin 512) (f : Fin 2048) :
    (iblk m c 0 t : Vec Ideal S1x1x512x2048 .bf16) (ix4 0 0 n f)
      = (m ((c.tc : Thread nD τ).loc main_arg0) : Vec Ideal S32768x2560 .bf16)
        (ix2 ⟨t.val / 4 * 8192 + (n.val * 16 + f.val / 128), by have := lt_of_lt_of_eq t.isLt N_0; omega⟩ ⟨1024 + (t.val % 4 * 128 + f.val % 128), by omega⟩) := by
  blk_point [iblk, V, idx0 t]

/-- The two first weights, one after the other. -/
def weights (A B : FVec Ideal S1x4096x128 .f32) : FVec Ideal S2x4096x128 .bf16 :=
  truncf .bf16 (concatenate S2x4096x128 0 [⟨S1x4096x128, broadcastInDim S1x4096x128 ![1, 2] bcast_S4096x128_S1x4096x128_1_2 (shapeCast _ A shapeCasts_S1x4096x128_S4096x128)⟩,
    ⟨S1x4096x128, broadcastInDim S1x4096x128 ![1, 2] bcast_S4096x128_S1x4096x128_1_2 (shapeCast _ B shapeCasts_S1x4096x128_S4096x128)⟩] concatenates_S1x4096x128_S1x4096x128_S2x4096x128_d0) bitsLt_bf16_f32

theorem weights_eq (c : Dev nD) : (V m c main_v13 : Vec Ideal S2x4096x128 .bf16)
    = weights (m ((c.tc : Thread nD τ).loc main_arg1)) (m ((c.tc : Thread nD τ).loc main_arg4)) := by
  unfold V weights
  after_results <;> rfl

theorem weights_at (A B : FVec Ideal S1x4096x128 .f32) (s : Fin 2) (k : Fin 4096) (d : Fin 128) :
    weights A B (ix3 s k d) = if s.val < 1 then A (ix3 0 k d) else B (ix3 0 k d) := by
  pointwise [weights]
  rfl

/-- The two second weights, one after the other. -/
def weights' (A B : FVec Ideal S1x128x128 .f32) : FVec Ideal S2x128x128 .bf16 :=
  truncf .bf16 (concatenate S2x128x128 0 [⟨S1x128x128, broadcastInDim S1x128x128 ![1, 2] bcast_S128x128_S1x128x128_1_2 (shapeCast _ A shapeCasts_S1x128x128_S128x128)⟩,
    ⟨S1x128x128, broadcastInDim S1x128x128 ![1, 2] bcast_S128x128_S1x128x128_1_2 (shapeCast _ B shapeCasts_S1x128x128_S128x128)⟩] concatenates_S1x128x128_S1x128x128_S2x128x128_d0) bitsLt_bf16_f32

theorem weights'_eq (c : Dev nD) : (V m c main_v17 : Vec Ideal S2x128x128 .bf16)
    = weights' (m ((c.tc : Thread nD τ).loc main_arg2)) (m ((c.tc : Thread nD τ).loc main_arg5)) := by
  unfold V weights'
  after_results <;> rfl

theorem weights'_at (A B : FVec Ideal S1x128x128 .f32) (s : Fin 2) (k d : Fin 128) :
    weights' A B (ix3 s k d) = if s.val < 1 then A (ix3 0 k d) else B (ix3 0 k d) := by
  pointwise [weights']
  rfl

/-- The two lists of positions, one after the other, each over eight rows. -/
def places (A B : FVec Ideal S1x32x128 .f32) : FVec Ideal S2x8x4096 .bf16 :=
  truncf .bf16 (broadcastInDim S2x8x4096 ![0, 1, 2] bcast_S2x1x4096_S2x8x4096_0_1_2 (shapeCast _ (concatenate S2x32x128 0
    [⟨S1x32x128, broadcastInDim S1x32x128 ![1, 2] bcast_S32x128_S1x32x128_1_2 (shapeCast _ A shapeCasts_S1x32x128_S32x128)⟩,
    ⟨S1x32x128, broadcastInDim S1x32x128 ![1, 2] bcast_S32x128_S1x32x128_1_2 (shapeCast _ B shapeCasts_S1x32x128_S32x128)⟩] concatenates_S1x32x128_S1x32x128_S2x32x128_d0) shapeCasts_S2x32x128_S2x1x4096)) bitsLt_bf16_f32

theorem places_eq (c : Dev nD) : (V m c main_v23 : Vec Ideal S2x8x4096 .bf16)
    = places (m ((c.tc : Thread nD τ).loc main_arg3)) (m ((c.tc : Thread nD τ).loc main_arg6)) := by
  unfold V places
  after_results <;> rfl

theorem places_at (A B : FVec Ideal S1x32x128 .f32) (s : Fin 2) (r : Fin 8) (k : Fin 4096) :
    places A B (ix3 s r k) = if s.val < 1 then A (ix3 0 ⟨k.val / 128, by omega⟩ ⟨k.val % 128, by omega⟩)
      else B (ix3 0 ⟨k.val / 128, by omega⟩ ⟨k.val % 128, by omega⟩) := by
  pointwise [places]
  rfl

theorem in1 (c : Dev nD) (t : Fin cfg0.N) (k : Fin 4096) (d : Fin 128) :
    (iblk m c 1 t : Vec Ideal S1x4096x128 .bf16) (ix3 0 k d) = (V m c main_v13 : Vec Ideal S2x4096x128 .bf16) (ix3 ⟨t.val % 4 / 2, by omega⟩ k d) := by
  blk_point [iblk, idx0 t]

theorem in2 (c : Dev nD) (t : Fin cfg0.N) (k d : Fin 128) :
    (iblk m c 2 t : Vec Ideal S1x128x128 .bf16) (ix3 0 k d) = (V m c main_v17 : Vec Ideal S2x128x128 .bf16) (ix3 ⟨t.val % 4 / 2, by omega⟩ k d) := by
  blk_point [iblk, idx0 t]

theorem in3 (c : Dev nD) (t : Fin cfg0.N) (k : Fin 4096) :
    (iblk m c 3 t : Vec Ideal S1x8x4096 .bf16) (ix3 0 0 k) = (V m c main_v23 : Vec Ideal S2x8x4096 .bf16) (ix3 ⟨t.val % 4 / 2, by omega⟩ 0 k) := by
  blk_point [iblk, idx0 t]

instance : Subsingleton Cert.Pre_finite.S_.Idx := ⟨fun a b => funext fun i => i.elim0⟩

/-- A comparison that came out one says that the element is a number. -/
theorem num_of_cmp {x b : EReal} (hb : b = ⊤) (h : Ideal.cmp .olt (max x (-x)) b = 1#1) : Num x := by
  subst hb
  refine num_of_abs ?_
  by_contra hn
  simp [Ideal.cmp, hn] at h

theorem top32 : (FloatOps.ofBits .f32 0x7F800000#32 : Ideal .f32) = (⊤ : EReal) := by
  show Ideal.ofBits .f32 0x7F800000#32 = _
  simp [Ideal.ofBits, Ideal.ieee]

open Cert.Pre_finite in
/-- What the precondition says: the elements of the first weights and of the positions are numbers. -/
theorem bound (h : Cert.Pre_CompressIdeal_finite m) (c : Dev nD) :
    (∀ i, Num ((m ((c.tc : Thread nD τ).loc main_arg1) : Vec Ideal S1x4096x128 .f32) i))
    ∧ (∀ i, Num ((m ((c.tc : Thread nD τ).loc main_arg3) : Vec Ideal S1x32x128 .f32) i))
    ∧ (∀ i, Num ((m ((c.tc : Thread nD τ).loc main_arg4) : Vec Ideal S1x4096x128 .f32) i))
    ∧ (∀ i, Num ((m ((c.tc : Thread nD τ).loc main_arg6) : Vec Ideal S1x32x128 .f32) i)) := by
  have h0 := congrFun (h c) ix0
  obtain ⟨h18, h6⟩ := IntOp.andi_eq_one.1 h0
  obtain ⟨h13, h4⟩ := IntOp.andi_eq_one.1 h18
  obtain ⟨h1, h3⟩ := IntOp.andi_eq_one.1 h13
  exact ⟨fun i => num_of_cmp top32 (Host.reduce_andi_all _ _ _ _ _ h1 i),
    fun i => num_of_cmp top32 (Host.reduce_andi_all _ _ _ _ _ h3 i), fun i => num_of_cmp top32 (Host.reduce_andi_all _ _ _ _ _ h4 i),
    fun i => num_of_cmp top32 (Host.reduce_andi_all _ _ _ _ _ h6 i)⟩

/-- The reference of a memory's arguments. -/
abbrev want (c : Dev nD) : FVec Ideal S4x4x512x128 .bf16 :=
  Cert.CompressRefIdeal.Rows.ref (m ((c.tc : Thread nD τ).loc main_arg1)) (m ((c.tc : Thread nD τ).loc main_arg2))
    (m ((c.tc : Thread nD τ).loc main_arg3)) (m ((c.tc : Thread nD τ).loc main_arg0)) (m ((c.tc : Thread nD τ).loc main_arg4))
    (m ((c.tc : Thread nD τ).loc main_arg5)) (m ((c.tc : Thread nD τ).loc main_arg6))

/-- The block a point writes, as rows of the reference. -/
theorem point (h : Cert.Pre_CompressIdeal_finite m) (c : Dev nD) (t : Fin cfg0.N) (n : Fin 512) (e : Fin 128) :
    k0_pay1 (F := Ideal) (iblk m c 0 t) (iblk m c 1 t) (iblk m c 3 t) (iblk m c 2 t) (ix4 0 0 n e)
      = want m c (ix4 ⟨t.val / 4, by have := lt_of_lt_of_eq t.isLt N_0; omega⟩ ⟨t.val % 4, by omega⟩ n e) := by
  obtain ⟨n1, n3, n4, n6⟩ := bound m h c
  have hx : ∀ n f, (iblk m c 0 t : Vec Ideal S1x1x512x2048 .bf16) (ix4 0 0 n f)
      = Cert.CompressRefIdeal.Rows.row (m ((c.tc : Thread nD τ).loc main_arg0)) ⟨t.val / 4, by have := lt_of_lt_of_eq t.isLt N_0; omega⟩ ⟨t.val % 4, by omega⟩ n f :=
    fun n f => in0 m c t n f
  rw [pay1_at, want, Cert.CompressRefIdeal.Rows.ref_at]
  by_cases g : t.val % 4 < 2
  · rw [if_pos g]
    refine Finset.sum_congr rfl fun d _ => ?_
    have hw : ∀ k, (iblk m c 1 t : Vec Ideal S1x4096x128 .bf16) (ix3 0 k d) = (m ((c.tc : Thread nD τ).loc main_arg1) : Vec Ideal S1x4096x128 .f32) (ix3 0 k d) := fun k => by
      rw [in1, weights_eq, weights_at, if_pos (by dsimp only; omega)]
    have hv : (iblk m c 2 t : Vec Ideal S1x128x128 .bf16) (ix3 0 d e) = (m ((c.tc : Thread nD τ).loc main_arg2) : Vec Ideal S1x128x128 .f32) (ix3 0 d e) := by
      rw [in2, weights'_eq, weights'_at, if_pos (by dsimp only; omega)]
    have hp : ∀ k : Fin 4096, (iblk m c 3 t : Vec Ideal S1x8x4096 .bf16) (ix3 0 0 k)
        = (m ((c.tc : Thread nD τ).loc main_arg3) : Vec Ideal S1x32x128 .f32) (ix3 0 ⟨k.val / 128, by omega⟩ ⟨k.val % 128, by omega⟩) := fun k => by
      rw [in3, places_eq, places_at, if_pos (by dsimp only; omega)]
    rw [hv, funext hw, funext hp, funext (hx _), funext (hx _), ← pre_eq _ _ (fun _ => n3 _) (fun _ => n1 _)]
  · rw [if_neg g]
    refine Finset.sum_congr rfl fun d _ => ?_
    have hw : ∀ k, (iblk m c 1 t : Vec Ideal S1x4096x128 .bf16) (ix3 0 k d) = (m ((c.tc : Thread nD τ).loc main_arg4) : Vec Ideal S1x4096x128 .f32) (ix3 0 k d) := fun k => by
      rw [in1, weights_eq, weights_at, if_neg (by dsimp only; omega)]
    have hv : (iblk m c 2 t : Vec Ideal S1x128x128 .bf16) (ix3 0 d e) = (m ((c.tc : Thread nD τ).loc main_arg5) : Vec Ideal S1x128x128 .f32) (ix3 0 d e) := by
      rw [in2, weights'_eq, weights'_at, if_neg (by dsimp only; omega)]
    have hp : ∀ k : Fin 4096, (iblk m c 3 t : Vec Ideal S1x8x4096 .bf16) (ix3 0 0 k)
        = (m ((c.tc : Thread nD τ).loc main_arg6) : Vec Ideal S1x32x128 .f32) (ix3 0 ⟨k.val / 128, by omega⟩ ⟨k.val % 128, by omega⟩) := fun k => by
      rw [in3, places_eq, places_at, if_neg (by dsimp only; omega)]
    rw [hv, funext hw, funext hp, funext (hx _), funext (hx _), ← pre_eq _ _ (fun _ => n6 _) (fun _ => n4 _)]

theorem final (h : Cert.Pre_CompressIdeal_finite m) (c : Dev nD) : (dats m 0 c).arrAt 4 (cfgs 0).N = want m c := by
  refine (dats m 0 c).arrAt_eq_of_covers 4 _ (by decide +kernel) fun t hf y => ?_
  blk_simp
  rw [after0_4]
  idx_vars y
  frame_out
  obtain rfl : y0 = 0 := Subsingleton.elim _ _
  obtain rfl : y1 = 0 := Subsingleton.elim _ _
  rw [point m h c t]
  congr 1
  blk_ext [idx0 t]

/-- The kernel's run: the result array is the reference function of the seven arguments, which stay as they were. -/
theorem run (h : Cert.Pre_CompressIdeal_finite m) (g : Dev nD → PrngReg) :
    θ_run defs (onTc (τ := τ) (main (F := Ideal))) ⟨m, fun _ => 0, g⟩ fun r => ∀ c : Dev nD,
      r.2.mem ((c : Thread nD τ).loc main_v24) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r hh c => ⟨(hh c).1.trans (final m h c), (hh c).2⟩) (Cert.CompressIdeal.Value.run_blocks m g)

theorem algebraic : Cert.algebraic_CompressIdeal_CompressRefIdeal_pre_finite := by
  intro m g m' g' hpre hagree
  refine ⟨fun c => want m c, run m hpre g, ?_⟩
  refine (θ_run Cert.CompressRefIdeal.defs _ _).mono (fun _ h c => ⟨(h c).1.trans ?_, (h c).2⟩)
    (Cert.CompressRefIdeal.Value.run (F := Ideal) m' g')
  obtain ⟨e0, e1, e2, e3, e4, e5, e6⟩ := hagree c
  dsimp only [want]
  rw [← e0, ← e1, ← e2, ← e3, ← e4, ← e5, ← e6]
  unfold Cert.CompressRefIdeal.Rows.ref
  rfl

end Cert.CompressIdeal.Rows

namespace Cert.Proof

theorem frame_compress : Cert.quiescent_Compress := fun m g _ => Cert.Compress.Gen.frame m g

theorem frame_compress_ideal : Cert.quiescent_CompressIdeal := fun m g _ => Cert.CompressIdeal.Gen.frame m g

theorem frame_compress_ideal_finite : Cert.quiescent_CompressIdeal_pre_finite := fun m g _ => Cert.CompressIdeal.Gen.frame m g

theorem frame_compress_ref : Cert.quiescent_CompressRefIdeal := fun m g _ =>
  (θ_run Cert.CompressRefIdeal.defs _ _).mono (fun r h => ⟨fun c => (h c).2, sem_eq_zero_of_no_sems (by decide) r.2⟩)
    (Cert.CompressRefIdeal.Value.run (F := Ideal) m g)

theorem frame_compress_ref_finite : Cert.quiescent_CompressRefIdeal_pre_finite := fun m g _ => frame_compress_ref m g trivial

end Cert.Proof

end
-- ==== Proof.Mlp.Spec.lean ====
module

public import proofs.«01_k».proof.Defs
public import proofs.«01_k».proof.Proof.Gen.MlpRefIdeal.Run
public import Idealize.ShloMosaic.Lib.Pipeline.ValueKit
public import Idealize.ShloMosaic.Lib.Pointwise

/-!
The feed-forward call of the layer, row by row: what one row of the result is as a function of one row of the input,
and the proof that the reference program computes it at every index.
-/

@[expose] public section

set_option maxRecDepth 16384

noncomputable section

open Idealize.ShloMosaic Idealize.ShloMosaic.TcCoe Idealize.SL.Sem

namespace Cert.MlpSpec

/-- One row scaled to unit mean square (with the layer's epsilon) and multiplied by the gain `g`. -/
def nrm (x g : Fin 2048 → EReal) (l : Fin 2048) : EReal :=
  x l * Ideal.rsqrt (Ideal.div (∑ k, x k * x k) (Ideal.ofBits FTy.f32 1157627904#32) + Ideal.ofBits FTy.f32 897988541#32) * g l

/-- One hidden unit: the positive part of the row's product with a column of the first weight. -/
def hid (h : Fin 2048 → EReal) (w : Fin 2048 → EReal) : EReal := max (∑ k, h k * w k) 0

/-- One row through the two weights with the squared positive part between them. -/
def ff (h : Fin 2048 → EReal) (w1 : Fin 2048 → Fin 8192 → EReal) (w2 : Fin 8192 → Fin 2048 → EReal) (l : Fin 2048) : EReal :=
  ∑ f, hid h (fun k => w1 k f) * hid h (fun k => w1 k f) * w2 f l

/-- One row of the call's result. -/
def row (x g : Fin 2048 → EReal) (w1 : Fin 2048 → Fin 8192 → EReal) (w2 : Fin 8192 → Fin 2048 → EReal) (gf : Fin 2048 → EReal)
    (l : Fin 2048) : EReal :=
  nrm (fun k => x k + ff (nrm x g) w1 w2 k) gf l

end Cert.MlpSpec

namespace Cert.MlpRefIdeal.Rows

open Cert.MlpRefIdeal Cert.MlpRefIdeal.Gen Cert.MlpSpec

/-- The reference's normalisation of an array's rows by a gain vector. -/
def norm (X : FVec Ideal S32768x2048 .f32) (g : FVec Ideal S2048 .f32) : FVec Ideal S32768x2048 .f32 :=
  mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 g))

/-- The reference's hidden layer. -/
def hidden (H : FVec Ideal S32768x2048 .f32) (W : FVec Ideal S2048x8192 .f32) : FVec Ideal S32768x8192 .f32 :=
  maximumf (Host.dotGeneral dot_S32768x2048_S2048x8192_S32768x8192_1_0_0_1_n_n none H W) (broadcastInDim S32768x8192 ![] bcast_S_S32768x8192 (constant S_ .f32 0x00000000#32))

/-- The reference's second product, of the squared hidden layer. -/
def down (U : FVec Ideal S32768x8192 .f32) (W : FVec Ideal S8192x2048 .f32) : FVec Ideal S32768x2048 .f32 :=
  Host.dotGeneral dot_S32768x8192_S8192x2048_S32768x2048_1_0_0_1_n_n none (mulf U U) W

theorem norm_at (X : FVec Ideal S32768x2048 .f32) (g : FVec Ideal S2048 .f32) (r : Fin 32768) (l : Fin 2048) :
    norm X g (ix2 r l) = nrm (fun k => X (ix2 r k)) (fun k => g (ix1 k)) l := by
  unfold nrm
  pointwise [norm]

theorem hidden_at (H : FVec Ideal S32768x2048 .f32) (W : FVec Ideal S2048x8192 .f32) (r : Fin 32768) (f : Fin 8192) :
    hidden H W (ix2 r f) = hid (fun k => H (ix2 r k)) (fun k => W (ix2 k f)) := by
  unfold hid
  pointwise [hidden]

theorem down_at (U : FVec Ideal S32768x8192 .f32) (W : FVec Ideal S8192x2048 .f32) (r : Fin 32768) (l : Fin 2048) :
    down U W (ix2 r l) = ∑ f, U (ix2 r f) * U (ix2 r f) * W (ix2 f l) := by
  pointwise [down]

theorem gain_at (G : FVec Ideal S1x2048 .f32) (k : Fin 2048) :
    shapeCast S2048 G shapeCasts_S1x2048_S2048 (ix1 k) = G (ix2 0 k) := by
  pointwise []

theorem up_at (W : FVec Ideal S1x2048x8192 .f32) (k : Fin 2048) (f : Fin 8192) :
    shapeCast S2048x8192 W shapeCasts_S1x2048x8192_S2048x8192 (ix2 k f) = W (ix3 0 k f) := by
  pointwise []

theorem dn_at (W : FVec Ideal S1x8192x2048 .f32) (f : Fin 8192) (l : Fin 2048) :
    shapeCast S8192x2048 W shapeCasts_S1x8192x2048_S8192x2048 (ix2 f l) = W (ix3 0 f l) := by
  pointwise []

/-- The whole reference as one function of its five arguments. -/
def ref (X : FVec Ideal S32768x2048 .f32) (G : FVec Ideal S1x2048 .f32) (W1 : FVec Ideal S1x2048x8192 .f32)
    (W2 : FVec Ideal S1x8192x2048 .f32) (gf : FVec Ideal S2048 .f32) : FVec Ideal S32768x2048 .f32 :=
  norm (addf X (down (hidden (norm X (shapeCast _ G shapeCasts_S1x2048_S2048)) (shapeCast _ W1 shapeCasts_S1x2048x8192_S2048x8192))
    (shapeCast _ W2 shapeCasts_S1x8192x2048_S8192x2048))) gf

theorem ref_at (X : FVec Ideal S32768x2048 .f32) (G : FVec Ideal S1x2048 .f32) (W1 : FVec Ideal S1x2048x8192 .f32)
    (W2 : FVec Ideal S1x8192x2048 .f32) (gf : FVec Ideal S2048 .f32) (r : Fin 32768) (l : Fin 2048) :
    ref X G W1 W2 gf (ix2 r l) = row (fun k => X (ix2 r k)) (fun k => G (ix2 0 k)) (fun k f => W1 (ix3 0 k f))
      (fun f k => W2 (ix3 0 f k)) (fun k => gf (ix1 k)) l := by
  unfold ref row
  rw [norm_at]
  congr 1
  funext k
  show X (ix2 r k) + _ = _
  rw [down_at]
  simp only [hidden_at, norm_at, gain_at, up_at, dn_at]
  rfl

theorem res_eq (m : (ℓ : Loc nD τ sig) → Buf (Elt Ideal) ℓ) (c : Dev nD) :
    Cert.MlpRefIdeal.Value.res_main_v33 (F := Ideal) m c
      = ref (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.MlpRefIdeal.Value.res_main_v33 ref norm down hidden
  rfl

end Cert.MlpRefIdeal.Rows

end
-- ==== Proof.Mlp.Kernel.lean ====
module

public import proofs.«01_k».proof.Proof.Mlp.Spec
public import proofs.«01_k».proof.Proof.Gen.MlpIdeal.Value

/-!
The feed-forward kernel at every grid point: the normalised rows it keeps through a run of sixteen points, the sum it
accumulates over the sixteen slices of the hidden layer, and the block it writes at the end of the run.
-/

@[expose] public section

set_option maxRecDepth 16384

noncomputable section

open Idealize.ShloMosaic Idealize.ShloMosaic.TcCoe Idealize.SL.Sem
open Idealize.ShloMosaic.Pipeline (Dat)

namespace Cert.MlpIdeal.Rows

open Cert.MlpIdeal Cert.MlpIdeal.Gen Cert.MlpSpec

theorem pay1_at (x : Vec Ideal S512x2048 .f32) (g : Vec Ideal S1x2048 .f32) (r : Fin 512) (l : Fin 2048) :
    k0_pay1 (F := Ideal) x g (ix2 r l) = nrm (fun k => x (ix2 r k)) (fun k => g (ix2 0 k)) l := by
  unfold nrm
  pointwise [k0_pay1]

theorem pay2_at (r : Fin 512) (l : Fin 2048) : k0_pay2 (F := Ideal) (ix2 r l) = 0 := by
  pointwise [k0_pay2]

theorem pay3_at (h : Vec Ideal S512x2048 .bf16) (w1 : Vec Ideal S2048x512 .bf16) (a : Vec Ideal S512x2048 .f32)
    (w2 : Vec Ideal S512x2048 .bf16) (r : Fin 512) (l : Fin 2048) :
    k0_pay3 (F := Ideal) h w1 a w2 (ix2 r l)
      = a (ix2 r l) + ∑ f : Fin 512, hid (fun k => h (ix2 r k)) (fun k => w1 (ix2 k f))
          * hid (fun k => h (ix2 r k)) (fun k => w1 (ix2 k f)) * w2 (ix2 f l) := by
  unfold hid
  pointwise [k0_pay3]

theorem pay4_at (x a : Vec Ideal S512x2048 .f32) (g : Vec Ideal S1x2048 .f32) (r : Fin 512) (l : Fin 2048) :
    k0_pay4 (F := Ideal) x a g (ix2 r l) = nrm (fun k => x (ix2 r k) + a (ix2 r k)) (fun k => g (ix2 0 k)) l := by
  unfold nrm
  pointwise [k0_pay4]

theorem idx0 : ∀ t : Fin cfg0.N, win0_0.index t = ![t.val / 16, 0] ∧ win0_1.index t = ![0, 0] ∧ win0_2.index t = ![0, t.val % 16]
    ∧ win0_3.index t = ![t.val % 16, 0] ∧ win0_4.index t = ![0, 0] ∧ win0_5.index t = ![t.val / 16, 0] :=
  (by decide +kernel : ∀ t : Fin grid0.N, _)

variable (m : (ℓ : Loc nD τ sig) → Buf (Elt Ideal) ℓ)

/-- The block of the input rows is the same at the points of one run. -/
theorem rows_same (c : Dev nD) (p q : Fin cfg0.N) (h : p.val / 16 = q.val / 16) :
    (iblk m c 0 p : Vec Ideal S512x2048 .f32) = iblk m c 0 q := by
  funext j
  blk_ext [iblk, V, idx0 p, idx0 q]

/-- The gain is the same at every point. -/
theorem gain_same (c : Dev nD) (p q : Fin cfg0.N) : (iblk m c 1 p : Vec Ideal S1x2048 .f32) = iblk m c 1 q := by
  funext j
  blk_ext [iblk, V, idx0 p, idx0 q]

/-- The rows a run keeps: at every point of it, the normalised rows of the point's own block of the input. -/
theorem kept (c : Dev nD) : ∀ (n : ℕ) (hn : n < cfg0.N),
    (outsAt0 m c n hn).2.1 = k0_pay1 (F := Ideal) (iblk m c 0 ⟨n, hn⟩) (iblk m c 1 ⟨n, hn⟩) := by
  intro n
  induction n with
  | zero =>
    intro hn
    rw [outsAt0_A m c ⟨0, hn⟩ rfl (by simp)]; frame_out
  | succ n ih =>
    intro hn
    by_cases h0 : (n + 1) % 16 = 0
    · rw [outsAt0_A m c ⟨n + 1, hn⟩ h0 (by dsimp only; omega)]; frame_out
    · have e : (outsAt0 m c (n + 1) hn).2.1 = (outsAt0 m c n (Nat.lt_of_succ_lt hn)).2.1 := by
        by_cases h1 : (n + 1) % 16 = 15
        · rw [outsAt0_C m c ⟨n + 1, hn⟩ h0 h1]; unfold sout0_C_0; simp
        · rw [outsAt0_B m c ⟨n + 1, hn⟩ h0 h1]; unfold sout0_B_0; simp
      rw [e, ih, rows_same m c ⟨n, Nat.lt_of_succ_lt hn⟩ ⟨n + 1, hn⟩ (by dsimp only; omega), gain_same m c _ ⟨n + 1, hn⟩]

/-- The rows kept from the point before, inside a run, are the normalised rows of this point's block. -/
theorem kept_prev (c : Dev nD) (t : Fin cfg0.N) (h : ¬ t.val % 16 = 0) (hn : t.val - 1 < cfg0.N) :
    (outsAt0 m c (t.val - 1) hn).2.1 = k0_pay1 (F := Ideal) (iblk m c 0 t) (iblk m c 1 t) := by
  rw [kept, rows_same m c ⟨t.val - 1, hn⟩ t (by dsimp only; omega), gain_same m c _ t]

/-- The part of a row of the second product that one point adds. -/
def part (h : Vec Ideal S512x2048 .bf16) (w1 : Vec Ideal S2048x512 .bf16) (w2 : Vec Ideal S512x2048 .bf16) (j : S512x2048.Idx) : EReal :=
  ∑ f : Fin 512, hid (fun k => h (ix2 (j 0) k)) (fun k => w1 (ix2 k f)) * hid (fun k => h (ix2 (j 0) k)) (fun k => w1 (ix2 k f)) * w2 (ix2 f (j 1))

theorem pay3_part (h : Vec Ideal S512x2048 .bf16) (w1 : Vec Ideal S2048x512 .bf16) (a : Vec Ideal S512x2048 .f32)
    (w2 : Vec Ideal S512x2048 .bf16) (j : S512x2048.Idx) :
    k0_pay3 (F := Ideal) h w1 a w2 j = a j + part h w1 w2 j := by
  idx_vars j
  exact pay3_at h w1 a w2 _ _

theorem pay2_zero (j : S512x2048.Idx) : k0_pay2 (F := Ideal) j = 0 := by
  idx_vars j
  exact pay2_at _ _

/-- What a scratch buffer is read back as is what was left in it. -/
theorem step_reads (h : Vec Ideal S512x2048 .bf16) (a : Vec Ideal S512x2048 .f32) (w1 : Vec Ideal S2048x512 .bf16)
    (w2 : Vec Ideal S512x2048 .bf16) (j : S512x2048.Idx) :
    (show EReal from (View.whole cc0_scratch1).read (Elt Ideal) ((Memref.isWhole_whole cc0_scratch1).unread a) j)
        + part ((View.whole cc0_scratch0).read (Elt Ideal) ((Memref.isWhole_whole cc0_scratch0).unread h)) w1 w2 j
      = a j + part h w1 w2 j :=
  congrArg₂ (fun (a' : Vec Ideal S512x2048 .f32) (h' : Vec Ideal S512x2048 .bf16) => a' j + part h' w1 w2 j)
    ((Memref.isWhole_whole cc0_scratch1).read_unread a) ((Memref.isWhole_whole cc0_scratch0).read_unread h)

/-- The sum after the last point of a run: the sixteen parts. -/
theorem acc_run (c : Dev nD) (t : Fin cfg0.N) (hf : t.val % 16 = 15) (j : S512x2048.Idx) :
    (outsAt0 m c t.val t.isLt).2.2 j
      = ∑ s : Fin 16, part (k0_pay1 (F := Ideal) (iblk m c 0 t) (iblk m c 1 t))
          (iblk m c 2 ⟨16 * (t.val / 16) + s.val, Pipeline.run_point_lt_of_flush t hf s⟩)
          (iblk m c 3 ⟨16 * (t.val / 16) + s.val, Pipeline.run_point_lt_of_flush t hf s⟩) j := by
  rw [Pipeline.eq_sum_fin_of_reset_step_apply_of_flush (fun n h => (outsAt0 m c n h).2.2) 16 (fun _ => 0)
    (fun p j => part (k0_pay1 (F := Ideal) (iblk m c 0 p) (iblk m c 1 p)) (iblk m c 2 p) (iblk m c 3 p) j)
    (fun t h j => by rw [outsAt0_A m c t h (by omega)]; frame_out; rw [pay3_part, pay2_zero])
    (fun t h j => by
      by_cases h1 : t.val % 16 = 15
      · rw [outsAt0_C m c t h h1]; frame_out; rw [pay3_part, ← kept_prev m c t h (lt_of_le_of_lt (Nat.sub_le _ _) t.isLt)]; exact step_reads _ _ _ _ j
      · rw [outsAt0_B m c t h h1]; frame_out; rw [pay3_part, ← kept_prev m c t h (lt_of_le_of_lt (Nat.sub_le _ _) t.isLt)]; exact step_reads _ _ _ _ j)
    t hf j, zero_add]
  refine Fin.sum_fin_congr fun s => ?_
  rw [rows_same m c ⟨16 * (t.val / 16) + s.val, _⟩ t (by dsimp only; omega), gain_same m c _ t]

theorem out_run (c : Dev nD) (t : Fin cfg0.N) (hf : t.val % 16 = 15) :
    (outsAt0 m c t.val t.isLt).1 = k0_pay4 (F := Ideal) (iblk m c 0 t) (outsAt0 m c t.val t.isLt).2.2 (iblk m c 4 t) := by
  rw [outsAt0_C m c t (by omega) hf]; frame_out

/-! The blocks of the inputs, read at an index of the arguments. -/

theorem in0 (c : Dev nD) (t : Fin cfg0.N) (r : Fin 512) (k : Fin 2048) :
    (iblk m c 0 t : Vec Ideal S512x2048 .f32) (ix2 r k)
      = (m ((c.tc : Thread nD τ).loc main_arg0) : Vec Ideal S32768x2048 .f32) (ix2 ⟨t.val / 16 * 512 + r.val, by have := lt_of_lt_of_eq t.isLt N_0; omega⟩ k) := by
  blk_point [iblk, V, idx0 t]

theorem in1 (c : Dev nD) (t : Fin cfg0.N) (k : Fin 2048) :
    (iblk m c 1 t : Vec Ideal S1x2048 .f32) (ix2 0 k) = (m ((c.tc : Thread nD τ).loc main_arg1) : Vec Ideal S1x2048 .f32) (ix2 0 k) := by
  blk_point [iblk, V, idx0 t]

theorem in2 (c : Dev nD) (t : Fin cfg0.N) (s : Fin 16) (ht : t.val % 16 = s.val) (k : Fin 2048) (f : Fin 512) :
    (iblk m c 2 t : Vec Ideal S2048x512 .bf16) (ix2 k f)
      = (m ((c.tc : Thread nD τ).loc main_arg2) : Vec Ideal S1x2048x8192 .f32) (ix3 0 k ⟨s.val * 512 + f.val, by omega⟩) := by
  blk_point [iblk, V, idx0 t]

theorem in3 (c : Dev nD) (t : Fin cfg0.N) (s : Fin 16) (ht : t.val % 16 = s.val) (k : Fin 2048) (f : Fin 512) :
    (iblk m c 3 t : Vec Ideal S512x2048 .bf16) (ix2 f k)
      = (m ((c.tc : Thread nD τ).loc main_arg3) : Vec Ideal S1x8192x2048 .f32) (ix3 0 ⟨s.val * 512 + f.val, by omega⟩ k) := by
  blk_point [iblk, V, idx0 t]

theorem in4 (c : Dev nD) (t : Fin cfg0.N) (k : Fin 2048) :
    (iblk m c 4 t : Vec Ideal S1x2048 .f32) (ix2 0 k) = (m ((c.tc : Thread nD τ).loc main_arg4) : Vec Ideal S2048 .f32) (ix1 k) := by
  blk_point [iblk, V, idx0 t]

theorem hid_congr {h h' w w' : Fin 2048 → EReal} {v v' : EReal} (eh : h = h') (ew : w = w') (ev : v = v') :
    hid h w * hid h w * v = hid h' w' * hid h' w' * v' := by
  rw [eh, ew, ev]

/-- The block a run writes at its end, as rows of the reference. -/
theorem point (c : Dev nD) (t : Fin cfg0.N) (hf : t.val % 16 = 15) (r : Fin 512) (l : Fin 2048) :
    (outsAt0 m c t.val t.isLt).1 (ix2 r l)
      = Cert.MlpRefIdeal.Rows.ref (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (ix2 ⟨t.val / 16 * 512 + r.val, by have := lt_of_lt_of_eq t.isLt N_0; omega⟩ l) := by
  rw [out_run m c t hf, pay4_at, Cert.MlpRefIdeal.Rows.ref_at]
  unfold row
  congr 1
  · funext k
    rw [acc_run m c t hf]
    refine congrArg₂ (fun a b : EReal => a + b) (in0 m c t r k) ?_
    simp only [part, ff]
    refine Fin.sum_mul_add_congr fun s f hl => ?_
    have hs : (16 * (t.val / 16) + s.val) % 16 = s.val := by omega
    have eh : (fun k : Fin 2048 => k0_pay1 (F := Ideal) (iblk m c 0 t) (iblk m c 1 t) (ix2 r k))
        = nrm (fun k => (m ((c.tc : Thread nD τ).loc main_arg0) : Vec Ideal S32768x2048 .f32) (ix2 ⟨t.val / 16 * 512 + r.val, by have := lt_of_lt_of_eq t.isLt N_0; omega⟩ k))
            (fun k => (m ((c.tc : Thread nD τ).loc main_arg1) : Vec Ideal S1x2048 .f32) (ix2 0 k)) := by
      funext k
      rw [pay1_at]
      congr 1 <;> funext k
      · exact in0 m c t r k
      · exact in1 m c t k
    exact hid_congr eh (funext fun k' => in2 m c _ s hs k' f) (in3 m c _ s hs k f)
  · funext k
    exact in4 m c t k

theorem final (c : Dev nD) : (dats m 0 c).arrAt 5 (cfgs 0).N
    = Cert.MlpRefIdeal.Rows.ref (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  idx_vars y
  rw [point m c t ((flush0_5 t).mp hf)]
  congr 1
  blk_ext [idx0 t]

end Cert.MlpIdeal.Rows

end
-- ==== Proof.Mlp.Claims.lean ====
module

public import proofs.«01_k».proof.Proof.Mlp.Kernel

/-!
The feed-forward call's value claim: the kernel's result array is the reference's, at every index and for every input.
-/

@[expose] public section

noncomputable section

open Idealize.ShloMosaic Idealize.ShloMosaic.TcCoe Idealize.SL.Sem

namespace Cert.MlpIdeal.Rows

open Cert.MlpIdeal Cert.MlpIdeal.Gen

/-- The kernel's run: the result array is the reference function of the five arguments, which stay as they were. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c : Thread nD τ).loc main_v7)
        = Cert.MlpRefIdeal.Rows.ref (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((Cert.MlpIdeal.Value.final5 m c).symm.trans (final m c)), (h c).2⟩)
    (Cert.MlpIdeal.Value.run m g)

theorem algebraic : Cert.algebraic_MlpIdeal_MlpRefIdeal := by
  intro m g m' g' _ hagree
  refine ⟨fun c => Cert.MlpRefIdeal.Rows.ref (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)),
    run m g, ?_⟩
  refine (θ_run Cert.MlpRefIdeal.defs _ _).mono (fun _ h c => ⟨(h c).1.trans ?_, (h c).2⟩)
    (Cert.MlpRefIdeal.Value.run (F := Ideal) m' g')
  obtain ⟨e0, e1, e2, e3, e4⟩ := hagree c
  rw [Cert.MlpRefIdeal.Rows.res_eq, e0, e1, e2, e3, e4]

end Cert.MlpIdeal.Rows

end
-- ==== Proof.Proj.InprojA.lean ====
module

public import proofs.«01_k».proof.Defs
public import proofs.«01_k».proof.Proof.Mlp.Spec
public import proofs.«01_k».proof.Proof.Gen.InprojAIdeal.Value
public import proofs.«01_k».proof.Proof.Gen.InprojARefIdeal.Run
public import Idealize.ShloMosaic.Lib.Pipeline.ValueKit
public import Idealize.ShloMosaic.Lib.Pointwise

/-!
The columns of the in-projection that feed the sparse attention: queries at their scale, keys and values as they are.
-/

@[expose] public section

set_option maxRecDepth 16384

noncomputable section

open Idealize.ShloMosaic Idealize.ShloMosaic.TcCoe Idealize.SL.Sem
open Idealize.ShloMosaic.Pipeline (Dat)

namespace Cert.InprojARefIdeal.Rows

open Cert.InprojARefIdeal Cert.InprojARefIdeal.Gen Cert.MlpSpec

/-- The reference's normalised rows. -/
def norm (X : FVec Ideal S32768x2048 .f32) (G : FVec Ideal S1x2048 .f32) : FVec Ideal S32768x2048 .f32 :=
  mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ G shapeCasts_S1x2048_S2048)))

theorem norm_at (X : FVec Ideal S32768x2048 .f32) (G : FVec Ideal S1x2048 .f32) (r : Fin 32768) (l : Fin 2048) :
    norm X G (ix2 r l) = nrm (fun k => X (ix2 r k)) (fun k => G (ix2 0 k)) l := by
  unfold nrm
  pointwise [norm]

/-- The reference's projected columns. -/
def cols (X : FVec Ideal S32768x2048 .f32) (G : FVec Ideal S1x2048 .f32) (W : FVec Ideal S1x2048x6688 .f32) : FVec Ideal S32768x6688 .f32 :=
  Host.dotGeneral dot_S32768x2048_S2048x6688_S32768x6688_1_0_0_1_n_n none (norm X G) (shapeCast _ W shapeCasts_S1x2048x6688_S2048x6688)

theorem cols_at (X : FVec Ideal S32768x2048 .f32) (G : FVec Ideal S1x2048 .f32) (W : FVec Ideal S1x2048x6688 .f32) (r : Fin 32768) (l : Fin 6688) :
    cols X G W (ix2 r l) = ∑ k, nrm (fun k => X (ix2 r k)) (fun k => G (ix2 0 k)) k * W (ix3 0 k l) := by
  have e : cols X G W (ix2 r l) = ∑ k, norm X G (ix2 r k) * W (ix3 0 k l) := by pointwise [cols]
  rw [e]
  exact Finset.sum_congr rfl fun k _ => by rw [norm_at]

/-- The reference as one function of its three arguments. -/
def ref (X : FVec Ideal S32768x2048 .f32) (G : FVec Ideal S1x2048 .f32) (W : FVec Ideal S1x2048x6688 .f32) : FVec Ideal S32768x2560 .bf16 :=
  truncf .bf16 (concatenate S32768x2560 1 [⟨S32768x1024, (mulf (extractStridedSlice S32768x1024 ![0, 0] (cols X G W) slices_S32768x6688_S32768x1024_0_0) (broadcastInDim S32768x1024 ![] bcast_S_S32768x1024 (constant S_ .f32 0x3DB504F3#32)))⟩, ⟨S32768x1536, (extractStridedSlice S32768x1536 ![0, 1024] (cols X G W) slices_S32768x6688_S32768x1536_0_1024)⟩] concatenates_S32768x1024_S32768x1536_S32768x2560_d1) bitsLt_bf16_f32

/-- The factor of a column: the queries' scale, and one. -/
def scale (l : ℕ) : EReal := if l < 1024 then Ideal.ofBits FTy.f32 0x3DB504F3#32 else 1

theorem ref_at (X : FVec Ideal S32768x2048 .f32) (G : FVec Ideal S1x2048 .f32) (W : FVec Ideal S1x2048x6688 .f32) (r : Fin 32768) (l : Fin 2560) :
    ref X G W (ix2 r l) = cols X G W (ix2 r ⟨l.val, by omega⟩) * scale l.val := by
  unfold scale
  pointwise [ref]
  by_cases h : l.val < 1024
  · rw [dif_pos h, if_pos h]
  · rw [dif_neg h, if_neg h]
    refine Eq.trans ?_ (mul_one (M := EReal) _).symm
    exact congrArg (fun j => cols X G W (ix2 r j)) (Fin.ext (by dsimp only; omega))

end Cert.InprojARefIdeal.Rows

namespace Cert.InprojAIdeal.Rows

open Cert.InprojAIdeal Cert.InprojAIdeal.Gen Cert.MlpSpec

theorem pay1_at (x : Vec Ideal S512x2048 .f32) (g : Vec Ideal S1x2048 .f32) (r : Fin 512) (l : Fin 2048) :
    k0_pay1 (F := Ideal) x g (ix2 r l) = nrm (fun k => x (ix2 r k)) (fun k => g (ix2 0 k)) l := by
  unfold nrm
  pointwise [k0_pay1]

theorem pay2_at (h : Vec Ideal S512x2048 .bf16) (w : Vec Ideal S2048x512 .bf16) (s : Vec Ideal S1x512 .f32) (r : Fin 512) (l : Fin 512) :
    k0_pay2 (F := Ideal) h w s (ix2 r l) = (∑ k, h (ix2 r k) * w (ix2 k l)) * s (ix2 0 l) := by
  pointwise [k0_pay2]

theorem idx0 : ∀ t : Fin cfg0.N, win0_0.index t = ![t.val / 5, 0] ∧ win0_1.index t = ![0, 0] ∧ win0_2.index t = ![0, t.val % 5]
    ∧ win0_3.index t = ![0, t.val % 5] ∧ win0_4.index t = ![t.val / 5, t.val % 5] :=
  (by decide +kernel : ∀ t : Fin grid0.N, _)

variable (m : (ℓ : Loc nD τ sig) → Buf (Elt Ideal) ℓ)

/-- The block of the input rows is the same at the points of one run. -/
theorem rows_same (c : Dev nD) (p q : Fin cfg0.N) (h : p.val / 5 = q.val / 5) :
    (iblk m c 0 p : Vec Ideal S512x2048 .f32) = iblk m c 0 q := by
  funext j
  blk_ext [iblk, V, idx0 p, idx0 q]

theorem gain_same (c : Dev nD) (p q : Fin cfg0.N) : (iblk m c 1 p : Vec Ideal S1x2048 .f32) = iblk m c 1 q := by
  funext j
  blk_ext [iblk, V, idx0 p, idx0 q]

/-- The rows a run keeps: at every point of it, the normalised rows of the point's own block of the input. -/
theorem kept (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 5 = 0
    · rw [outsAt0_A m c ⟨n + 1, hn⟩ h0]; frame_out
    · have e : (outsAt0 m c (n + 1) hn).2 = (outsAt0 m c n (Nat.lt_of_succ_lt hn)).2 := by
        rw [outsAt0_B m c ⟨n + 1, hn⟩ h0]; unfold sout0_B_0; simp
      rw [e, ih, rows_same m c ⟨n, Nat.lt_of_succ_lt hn⟩ ⟨n + 1, hn⟩ (by dsimp only; omega), gain_same m c _ ⟨n + 1, hn⟩]

theorem kept_prev (c : Dev nD) (t : Fin cfg0.N) (h : ¬ t.val % 5 = 0) (hn : t.val - 1 < cfg0.N) :
    (outsAt0 m c (t.val - 1) hn).2 = k0_pay1 (F := Ideal) (iblk m c 0 t) (iblk m c 1 t) := by
  rw [kept, rows_same m c ⟨t.val - 1, hn⟩ t (by dsimp only; omega), gain_same m c _ t]

/-- Every point's block of the result: the normalised rows against the point's columns. -/
theorem out_at (c : Dev nD) (t : Fin cfg0.N) :
    (outsAt0 m c t.val t.isLt).1 = k0_pay2 (F := Ideal) (k0_pay1 (F := Ideal) (iblk m c 0 t) (iblk m c 1 t)) (iblk m c 2 t) (iblk m c 3 t) := by
  by_cases h : t.val % 5 = 0
  · rw [outsAt0_A m c t h]; frame_out
  · rw [← kept_prev m c t h (lt_of_le_of_lt (Nat.sub_le _ _) t.isLt), outsAt0_B m c t h]; frame_out
    rw [(Memref.isWhole_whole cc0_scratch0).read_unread]

/-! The blocks of the inputs, read at an index of the arguments. -/

theorem in0 (c : Dev nD) (t : Fin cfg0.N) (r : Fin 512) (k : Fin 2048) :
    (iblk m c 0 t : Vec Ideal S512x2048 .f32) (ix2 r k)
      = (m ((c.tc : Thread nD τ).loc main_arg0) : Vec Ideal S32768x2048 .f32) (ix2 ⟨t.val / 5 * 512 + r.val, by have := lt_of_lt_of_eq t.isLt N_0; omega⟩ k) := by
  blk_point [iblk, V, idx0 t]

theorem in1 (c : Dev nD) (t : Fin cfg0.N) (k : Fin 2048) :
    (iblk m c 1 t : Vec Ideal S1x2048 .f32) (ix2 0 k) = (m ((c.tc : Thread nD τ).loc main_arg1) : Vec Ideal S1x2048 .f32) (ix2 0 k) := by
  blk_point [iblk, V, idx0 t]

/-- The normalised rows of a point's block are rows of the normalised input. -/
theorem rows_at (c : Dev nD) (t : Fin cfg0.N) (r : Fin 512) (k : Fin 2048) :
    k0_pay1 (F := Ideal) (iblk m c 0 t) (iblk m c 1 t) (ix2 r k)
      = nrm (fun k => (m ((c.tc : Thread nD τ).loc main_arg0) : Vec Ideal S32768x2048 .f32) (ix2 ⟨t.val / 5 * 512 + r.val, by have := lt_of_lt_of_eq t.isLt N_0; omega⟩ k))
          (fun k => (m ((c.tc : Thread nD τ).loc main_arg1) : Vec Ideal S1x2048 .f32) (ix2 0 k)) k := by
  rw [pay1_at]
  congr 1 <;> funext k
  · exact in0 m c t r k
  · exact in1 m c t k

theorem in2 (c : Dev nD) (t : Fin cfg0.N) (k : Fin 2048) (l : Fin 512) :
    (iblk m c 2 t : Vec Ideal S2048x512 .bf16) (ix2 k l)
      = (m ((c.tc : Thread nD τ).loc main_arg2) : Vec Ideal S1x2048x6688 .f32) (ix3 0 k ⟨t.val % 5 * 512 + l.val, by omega⟩) := by
  blk_point [iblk, V, idx0 t]

/-- The kernel's row of factors. -/
def factors : FVec Ideal S1x2560 .f32 :=
  concatenate S1x2560 1 [⟨S1x1024, (broadcastInDim S1x1024 ![] bcast_S_S1x1024 (constant S_ .f32 0x3DB504F3#32 : FVec Ideal S_ .f32) : FVec Ideal S1x1024 .f32)⟩,
    ⟨S1x1536, (broadcastInDim S1x1536 ![] bcast_S_S1x1536 (constant S_ .f32 0x3F800000#32 : FVec Ideal S_ .f32) : FVec Ideal S1x1536 .f32)⟩] concatenates_S1x1024_S1x1536_S1x2560_d1

theorem factors_eq (c : Dev nD) : (V m c main_v6 : Vec Ideal S1x2560 .f32) = factors := by
  unfold V factors
  after_results <;> rfl

theorem factors_at (l : Fin 2560) : factors (ix2 0 l) = Cert.InprojARefIdeal.Rows.scale l.val := by
  unfold Cert.InprojARefIdeal.Rows.scale
  pointwise [factors]
  by_cases h : l.val < 1024
  · rw [dif_pos h, if_pos h]
  · rw [dif_neg h, if_neg h]

theorem in3 (c : Dev nD) (t : Fin cfg0.N) (l : Fin 512) :
    (iblk m c 3 t : Vec Ideal S1x512 .f32) (ix2 0 l) = Cert.InprojARefIdeal.Rows.scale (t.val % 5 * 512 + l.val) := by
  have e : (iblk m c 3 t : Vec Ideal S1x512 .f32) (ix2 0 l) = (V m c main_v6 : Vec Ideal S1x2560 .f32) (ix2 0 ⟨t.val % 5 * 512 + l.val, by omega⟩) := by
    blk_point [iblk, idx0 t]
  rw [e, factors_eq, factors_at]

/-- The block a point writes, as rows of the reference. -/
theorem point (c : Dev nD) (t : Fin cfg0.N) (r l : Fin 512) :
    (outsAt0 m c t.val t.isLt).1 (ix2 r l)
      = Cert.InprojARefIdeal.Rows.ref (m ((c.tc : Thread nD τ).loc main_arg0)) (m ((c.tc : Thread nD τ).loc main_arg1))
          (m ((c.tc : Thread nD τ).loc main_arg2))
          (ix2 ⟨t.val / 5 * 512 + r.val, by have := lt_of_lt_of_eq t.isLt N_0; omega⟩ ⟨t.val % 5 * 512 + l.val, by omega⟩) := by
  rw [out_at m c t, pay2_at, Cert.InprojARefIdeal.Rows.ref_at, Cert.InprojARefIdeal.Rows.cols_at]
  refine congrArg₂ (fun a b : EReal => a * b) (Finset.sum_congr rfl fun k _ => ?_) (in3 m c t l)
  exact congrArg₂ (fun a b : EReal => a * b) (rows_at m c t r k) (in2 m c t k l)

theorem final (c : Dev nD) : (dats m 0 c).arrAt 4 (cfgs 0).N
    = Cert.InprojARefIdeal.Rows.ref (m ((c.tc : Thread nD τ).loc main_arg0)) (m ((c.tc : Thread nD τ).loc main_arg1))
          (m ((c.tc : Thread nD τ).loc main_arg2)) := by
  refine (dats m 0 c).arrAt_eq_of_covers 4 _ (by decide +kernel) fun t hf y => ?_
  blk_simp
  rw [after0_4]
  idx_vars y
  rw [point m c t]
  congr 1
  blk_ext [idx0 t]

/-- The kernel's run: the result array is the reference function of the three arguments, which stay as they were. -/
theorem run (g : Dev nD → PrngReg) :
    θ_run defs (onTc (τ := τ) (main (F := Ideal))) ⟨m, fun _ => 0, g⟩ fun r => ∀ c : Dev nD,
      r.2.mem ((c : Thread nD τ).loc main_v8)
        = Cert.InprojARefIdeal.Rows.ref (m ((c.tc : Thread nD τ).loc main_arg0)) (m ((c.tc : Thread nD τ).loc main_arg1))
          (m ((c.tc : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.InprojAIdeal.Value.run_blocks m g)

theorem algebraic : Cert.algebraic_InprojAIdeal_InprojARefIdeal := by
  intro m g m' g' _ hagree
  refine ⟨fun c => Cert.InprojARefIdeal.Rows.ref (m ((c.tc : Thread nD τ).loc main_arg0)) (m ((c.tc : Thread nD τ).loc main_arg1))
          (m ((c.tc : Thread nD τ).loc main_arg2)), run m g, ?_⟩
  refine (θ_run Cert.InprojARefIdeal.defs _ _).mono (fun _ h c => ⟨(h c).1.trans ?_, (h c).2⟩)
    (Cert.InprojARefIdeal.Value.run (F := Ideal) m' g')
  obtain ⟨e0, e1, e2⟩ := hagree c
  dsimp only
  rw [← e0, ← e1, ← e2]
  unfold Cert.InprojARefIdeal.Rows.ref Cert.InprojARefIdeal.Rows.cols Cert.InprojARefIdeal.Rows.norm
  rfl

end Cert.InprojAIdeal.Rows

end
-- ==== Proof.Proj.InprojB.lean ====
module

public import proofs.«01_k».proof.Defs
public import proofs.«01_k».proof.Proof.Mlp.Spec
public import proofs.«01_k».proof.Proof.Gen.InprojBIdeal.Value
public import proofs.«01_k».proof.Proof.Gen.InprojBRefIdeal.Run
public import Idealize.ShloMosaic.Lib.Pipeline.ValueKit
public import Idealize.ShloMosaic.Lib.Pointwise

/-!
The other columns of the in-projection: the recurrence's, and the gates of both head groups, each filled up with zero
columns to whole lanes. The kernel multiplies by zero columns where the reference pads its result.
-/

@[expose] public section

set_option maxRecDepth 16384

noncomputable section

open Idealize.ShloMosaic Idealize.ShloMosaic.TcCoe Idealize.SL.Sem
open Idealize.ShloMosaic.Pipeline (Dat)

namespace Cert.InprojBRefIdeal.Rows

open Cert.InprojBRefIdeal Cert.InprojBRefIdeal.Gen Cert.MlpSpec

/-- The reference's normalised rows. -/
def norm (X : FVec Ideal S32768x2048 .f32) (G : FVec Ideal S1x2048 .f32) : FVec Ideal S32768x2048 .f32 :=
  mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 (shapeCast _ G shapeCasts_S1x2048_S2048)))

theorem norm_at (X : FVec Ideal S32768x2048 .f32) (G : FVec Ideal S1x2048 .f32) (r : Fin 32768) (l : Fin 2048) :
    norm X G (ix2 r l) = nrm (fun k => X (ix2 r k)) (fun k => G (ix2 0 k)) l := by
  unfold nrm
  pointwise [norm]

/-- The reference's projected columns. -/
def cols (X : FVec Ideal S32768x2048 .f32) (G : FVec Ideal S1x2048 .f32) (W : FVec Ideal S1x2048x6688 .f32) : FVec Ideal S32768x6688 .f32 :=
  Host.dotGeneral dot_S32768x2048_S2048x6688_S32768x6688_1_0_0_1_n_n none (norm X G) (shapeCast _ W shapeCasts_S1x2048x6688_S2048x6688)

theorem cols_at (X : FVec Ideal S32768x2048 .f32) (G : FVec Ideal S1x2048 .f32) (W : FVec Ideal S1x2048x6688 .f32) (r : Fin 32768) (l : Fin 6688) :
    cols X G W (ix2 r l) = ∑ k, nrm (fun k => X (ix2 r k)) (fun k => G (ix2 0 k)) k * W (ix3 0 k l) := by
  have e : cols X G W (ix2 r l) = ∑ k, norm X G (ix2 r k) * W (ix3 0 k l) := by pointwise [cols]
  rw [e]
  exact Finset.sum_congr rfl fun k _ => by rw [norm_at]

theorem fin_eq {n a b : ℕ} (ha : a < n) (hb : b < n) (h : a = b) : (⟨a, ha⟩ : Fin n) = ⟨b, hb⟩ := by
  subst h
  rfl

/-- The gates of the sparse attention, each group's twelve in lanes of their own. -/
def gates (Z : FVec Ideal S32768x6688 .f32) : FVec Ideal S32768x256 .f32 :=
  shapeCast _ (pad S32768x2x128 ![0, 0, 0] ![0, 0, 116] ![0, 0, 0] (shapeCast _ (extractStridedSlice S32768x24 ![0, 2560] Z slices_S32768x6688_S32768x24_0_2560) shapeCasts_S32768x24_S32768x2x12) (sitofp .f32 (constantI S_ 32 0#32)) pads_S32768x2x12_S32768x2x128_000_000_01160 h_S_) shapeCasts_S32768x2x128_S32768x256

/-- The recurrence's gates in lanes of their own. -/
def rates (Z : FVec Ideal S32768x6688 .f32) : FVec Ideal S32768x256 .f32 :=
  pad S32768x256 ![0, 0] ![0, 248] ![0, 0] (extractStridedSlice S32768x8 ![0, 6680] Z slices_S32768x6688_S32768x8_0_6680) (sitofp .f32 (constantI S_ 32 0#32)) pads_S32768x8_S32768x256_000_02480 h_S_

theorem fill : FloatOps.sitofp (F := Ideal) FTy.f32 0#32 = (0 : EReal) := by
  show ((((0#32 : BitVec 32).toInt : ℤ) : ℝ) : EReal) = 0
  simp

theorem gates_at (Z : FVec Ideal S32768x6688 .f32) (r : Fin 32768) (l : Fin 256) :
    gates Z (ix2 r l) = if h : l.val % 128 < 12 then Z (ix2 r ⟨2560 + (l.val / 128 * 12 + l.val % 128), by omega⟩) else 0 := by
  pointwise [gates]
  exact dite_congr (propext (by omega)) (fun h => rfl) fun h => fill

theorem rates_at (Z : FVec Ideal S32768x6688 .f32) (r : Fin 32768) (l : Fin 256) :
    rates Z (ix2 r l) = if h : l.val < 8 then Z (ix2 r ⟨6680 + l.val, by omega⟩) else 0 := by
  pointwise [rates]
  exact dite_congr rfl (fun h => rfl) fun h => fill

theorem parts_at (A : FVec Ideal S32768x4096 .f32) (B C : FVec Ideal S32768x256 .f32) (r : Fin 32768) (l : Fin 4608) :
    (concatenate S32768x4608 1 [⟨S32768x4096, A⟩, ⟨S32768x256, B⟩, ⟨S32768x256, C⟩] concatenates_S32768x4096_S32768x256_S32768x256_S32768x4608_d1 : FVec Ideal S32768x4608 .f32) (ix2 r l)
      = if h : l.val < 4096 then A (ix2 r ⟨l.val, h⟩) else if h' : l.val < 4352 then B (ix2 r ⟨l.val - 4096, by omega⟩)
        else C (ix2 r ⟨l.val - 4352, by omega⟩) := by
  pointwise []
  refine dite_congr rfl (fun h => rfl) fun h => dite_congr (propext (by omega)) (fun h' => rfl) fun h' => ?_
  exact congrArg (fun j => C (ix2 r j)) (fin_eq _ _ (by omega))

/-- The reference as one function of its three arguments. -/
def ref (X : FVec Ideal S32768x2048 .f32) (G : FVec Ideal S1x2048 .f32) (W : FVec Ideal S1x2048x6688 .f32) : FVec Ideal S32768x4608 .f32 :=
  concatenate S32768x4608 1 [⟨S32768x4096, extractStridedSlice S32768x4096 ![0, 2584] (cols X G W) slices_S32768x6688_S32768x4096_0_2584⟩, ⟨S32768x256, gates (cols X G W)⟩, ⟨S32768x256, rates (cols X G W)⟩] concatenates_S32768x4096_S32768x256_S32768x256_S32768x4608_d1

/-- Column `l` of the second segment as one of the combined projection's columns, and zero where it is none. -/
def pick (f : Fin 6688 → EReal) (l : Fin 4608) : EReal :=
  if h : l.val < 4096 then f ⟨2584 + l.val, by omega⟩
  else if h : l.val < 4108 then f ⟨2560 + (l.val - 4096), by omega⟩
  else if l.val < 4224 then 0
  else if h : l.val < 4236 then f ⟨2572 + (l.val - 4224), by omega⟩
  else if l.val < 4352 then 0
  else if h : l.val < 4360 then f ⟨6680 + (l.val - 4352), by omega⟩
  else 0

theorem front_at (Z : FVec Ideal S32768x6688 .f32) (r : Fin 32768) (l : Fin 4096) :
    extractStridedSlice S32768x4096 ![0, 2584] Z slices_S32768x6688_S32768x4096_0_2584 (ix2 r l) = Z (ix2 r ⟨2584 + l.val, by omega⟩) := by
  pointwise []

theorem ref_at (X : FVec Ideal S32768x2048 .f32) (G : FVec Ideal S1x2048 .f32) (W : FVec Ideal S1x2048x6688 .f32) (r : Fin 32768) (l : Fin 4608) :
    ref X G W (ix2 r l) = pick (fun j => cols X G W (ix2 r j)) l := by
  rw [ref, parts_at]
  simp only [gates_at, rates_at, front_at]
  unfold pick
  refine dite_congr rfl (fun h => rfl) fun h1 => ?_
  by_cases h2 : l.val < 4352
  · rw [dif_pos h2]
    by_cases h3 : l.val < 4108
    · rw [dif_pos h3, dif_pos (by omega)]
      exact congrArg (fun j => cols X G W (ix2 r j)) (fin_eq _ _ (by omega))
    · rw [dif_neg h3]
      by_cases h4 : l.val < 4224
      · rw [if_pos h4, dif_neg (by omega)]
      · rw [if_neg h4]
        by_cases h5 : l.val < 4236
        · rw [dif_pos h5, dif_pos (by omega)]
          exact congrArg (fun j => cols X G W (ix2 r j)) (fin_eq _ _ (by omega))
        · rw [dif_neg h5, if_pos h2, dif_neg (by omega)]
  · have a1 : ¬ l.val < 4108 := by omega
    have a2 : ¬ l.val < 4224 := by omega
    have a3 : ¬ l.val < 4236 := by omega
    rw [dif_neg h2, dif_neg a1, if_neg a2, dif_neg a3, if_neg h2]
    exact dite_congr (propext (by omega)) (fun h => rfl) fun h => rfl

/-- A product with a picked column is the picked product. -/
theorem pick_sum (x : Fin 2048 → EReal) (w : Fin 2048 → Fin 6688 → EReal) (l : Fin 4608) :
    ∑ k, x k * pick (w k) l = pick (fun j => ∑ k, x k * w k j) l := by
  unfold pick
  split_ifs <;> simp

end Cert.InprojBRefIdeal.Rows

namespace Cert.InprojBIdeal.Rows

open Cert.InprojBIdeal Cert.InprojBIdeal.Gen Cert.MlpSpec

theorem pay1_at (x : Vec Ideal S512x2048 .f32) (g : Vec Ideal S1x2048 .f32) (r : Fin 512) (l : Fin 2048) :
    k0_pay1 (F := Ideal) x g (ix2 r l) = nrm (fun k => x (ix2 r k)) (fun k => g (ix2 0 k)) l := by
  unfold nrm
  pointwise [k0_pay1]

theorem pay2_at (h : Vec Ideal S512x2048 .bf16) (w : Vec Ideal S2048x1536 .bf16) (s : Vec Ideal S1x1536 .f32) (r : Fin 512) (l : Fin 1536) :
    k0_pay2 (F := Ideal) h w s (ix2 r l) = (∑ k, h (ix2 r k) * w (ix2 k l)) * s (ix2 0 l) := by
  pointwise [k0_pay2]

theorem idx0 : ∀ t : Fin cfg0.N, win0_0.index t = ![t.val / 3, 0] ∧ win0_1.index t = ![0, 0] ∧ win0_2.index t = ![0, t.val % 3]
    ∧ win0_3.index t = ![0, t.val % 3] ∧ win0_4.index t = ![t.val / 3, t.val % 3] :=
  (by decide +kernel : ∀ t : Fin grid0.N, _)

variable (m : (ℓ : Loc nD τ sig) → Buf (Elt Ideal) ℓ)

/-- The block of the input rows is the same at the points of one run. -/
theorem rows_same (c : Dev nD) (p q : Fin cfg0.N) (h : p.val / 3 = q.val / 3) :
    (iblk m c 0 p : Vec Ideal S512x2048 .f32) = iblk m c 0 q := by
  funext j
  blk_ext [iblk, V, idx0 p, idx0 q]

theorem gain_same (c : Dev nD) (p q : Fin cfg0.N) : (iblk m c 1 p : Vec Ideal S1x2048 .f32) = iblk m c 1 q := by
  funext j
  blk_ext [iblk, V, idx0 p, idx0 q]

/-- The rows a run keeps: at every point of it, the normalised rows of the point's own block of the input. -/
theorem kept (c : Dev nD) : ∀ (n : ℕ) (hn : n < cfg0.N),
    (outsAt0 m c n hn).2 = k0_pay1 (F := Ideal) (iblk m c 0 ⟨n, hn⟩) (iblk m c 1 ⟨n, hn⟩) := by
  intro n
  induction n with
  | zero =>
    intro hn
    rw [outsAt0_A m c ⟨0, hn⟩ rfl]; frame_out
  | succ n ih =>
    intro hn
    by_cases h0 : (n + 1) % 3 = 0
    · rw [outsAt0_A m c ⟨n + 1, hn⟩ h0]; frame_out
    · have e : (outsAt0 m c (n + 1) hn).2 = (outsAt0 m c n (Nat.lt_of_succ_lt hn)).2 := by
        rw [outsAt0_B m c ⟨n + 1, hn⟩ h0]; unfold sout0_B_0; simp
      rw [e, ih, rows_same m c ⟨n, Nat.lt_of_succ_lt hn⟩ ⟨n + 1, hn⟩ (by dsimp only; omega), gain_same m c _ ⟨n + 1, hn⟩]

theorem kept_prev (c : Dev nD) (t : Fin cfg0.N) (h : ¬ t.val % 3 = 0) (hn : t.val - 1 < cfg0.N) :
    (outsAt0 m c (t.val - 1) hn).2 = k0_pay1 (F := Ideal) (iblk m c 0 t) (iblk m c 1 t) := by
  rw [kept, rows_same m c ⟨t.val - 1, hn⟩ t (by dsimp only; omega), gain_same m c _ t]

/-- Every point's block of the result: the normalised rows against the point's columns. -/
theorem out_at (c : Dev nD) (t : Fin cfg0.N) :
    (outsAt0 m c t.val t.isLt).1 = k0_pay2 (F := Ideal) (k0_pay1 (F := Ideal) (iblk m c 0 t) (iblk m c 1 t)) (iblk m c 2 t) (iblk m c 3 t) := by
  by_cases h : t.val % 3 = 0
  · rw [outsAt0_A m c t h]; frame_out
  · rw [← kept_prev m c t h (lt_of_le_of_lt (Nat.sub_le _ _) t.isLt), outsAt0_B m c t h]; frame_out
    rw [(Memref.isWhole_whole cc0_scratch0).read_unread]

/-! The blocks of the inputs, read at an index of the arguments. -/

theorem in0 (c : Dev nD) (t : Fin cfg0.N) (r : Fin 512) (k : Fin 2048) :
    (iblk m c 0 t : Vec Ideal S512x2048 .f32) (ix2 r k)
      = (m ((c.tc : Thread nD τ).loc main_arg0) : Vec Ideal S32768x2048 .f32) (ix2 ⟨t.val / 3 * 512 + r.val, by have := lt_of_lt_of_eq t.isLt N_0; omega⟩ k) := by
  blk_point [iblk, V, idx0 t]

theorem in1 (c : Dev nD) (t : Fin cfg0.N) (k : Fin 2048) :
    (iblk m c 1 t : Vec Ideal S1x2048 .f32) (ix2 0 k) = (m ((c.tc : Thread nD τ).loc main_arg1) : Vec Ideal S1x2048 .f32) (ix2 0 k) := by
  blk_point [iblk, V, idx0 t]

/-- The normalised rows of a point's block are rows of the normalised input. -/
theorem rows_at (c : Dev nD) (t : Fin cfg0.N) (r : Fin 512) (k : Fin 2048) :
    k0_pay1 (F := Ideal) (iblk m c 0 t) (iblk m c 1 t) (ix2 r k)
      = nrm (fun k => (m ((c.tc : Thread nD τ).loc main_arg0) : Vec Ideal S32768x2048 .f32) (ix2 ⟨t.val / 3 * 512 + r.val, by have := lt_of_lt_of_eq t.isLt N_0; omega⟩ k))
          (fun k => (m ((c.tc : Thread nD τ).loc main_arg1) : Vec Ideal S1x2048 .f32) (ix2 0 k)) k := by
  rw [pay1_at]
  congr 1 <;> funext k
  · exact in0 m c t r k
  · exact in1 m c t k

/-- A column of the seven parts put side by side. -/
theorem cat_at (a : FVec Ideal S2048x4096 .f32) (b : FVec Ideal S2048x12 .f32) (y : FVec Ideal S2048x116 .f32) (c : FVec Ideal S2048x12 .f32)
    (z : FVec Ideal S2048x116 .f32) (d : FVec Ideal S2048x8 .f32) (e : FVec Ideal S2048x248 .f32) (k : Fin 2048) (l : Fin 4608) :
    (concatenate S2048x4608 1 [⟨S2048x4096, a⟩, ⟨S2048x12, b⟩, ⟨S2048x116, y⟩, ⟨S2048x12, c⟩,
    ⟨S2048x116, z⟩, ⟨S2048x8, d⟩, ⟨S2048x248, e⟩] concatenates_S2048x4096_S2048x12_S2048x116_S2048x12_S2048x116_S2048x8_S2048x248_S2048x4608_d1 : FVec Ideal S2048x4608 .f32) (ix2 k l)
      = if h : l.val < 4096 then a (ix2 k ⟨l.val, h⟩) else if h : l.val < 4108 then b (ix2 k ⟨l.val - 4096, by omega⟩)
        else if h : l.val < 4224 then y (ix2 k ⟨l.val - 4108, by omega⟩) else if h : l.val < 4236 then c (ix2 k ⟨l.val - 4224, by omega⟩)
        else if h : l.val < 4352 then z (ix2 k ⟨l.val - 4236, by omega⟩) else if h : l.val < 4360 then d (ix2 k ⟨l.val - 4352, by omega⟩)
        else e (ix2 k ⟨l.val - 4360, by omega⟩) := by
  pointwise []
  refine dite_congr rfl (fun h => rfl) fun h => ?_
  refine dite_congr (propext (by omega)) (fun h => congrArg (fun j => b (ix2 k j)) (Cert.InprojBRefIdeal.Rows.fin_eq _ _ (by omega))) fun h => ?_
  refine dite_congr (propext (by omega)) (fun h => congrArg (fun j => y (ix2 k j)) (Cert.InprojBRefIdeal.Rows.fin_eq _ _ (by omega))) fun h => ?_
  refine dite_congr (propext (by omega)) (fun h => congrArg (fun j => c (ix2 k j)) (Cert.InprojBRefIdeal.Rows.fin_eq _ _ (by omega))) fun h => ?_
  refine dite_congr (propext (by omega)) (fun h => congrArg (fun j => z (ix2 k j)) (Cert.InprojBRefIdeal.Rows.fin_eq _ _ (by omega))) fun h => ?_
  exact dite_congr (propext (by omega)) (fun h => congrArg (fun j => d (ix2 k j)) (Cert.InprojBRefIdeal.Rows.fin_eq _ _ (by omega)))
    (fun h => congrArg (fun j => e (ix2 k j)) (Cert.InprojBRefIdeal.Rows.fin_eq _ _ (by omega)))

def zeros : FVec Ideal S2048x116 .f32 := broadcastInDim S2048x116 ![] bcast_S_S2048x116 (constant S_ .f32 0x00000000#32 : FVec Ideal S_ .f32)

def zeros' : FVec Ideal S2048x248 .f32 := broadcastInDim S2048x248 ![] bcast_S_S2048x248 (constant S_ .f32 0x00000000#32 : FVec Ideal S_ .f32)

/-- The weight's columns in the order of the second segment. -/
def weight (W : FVec Ideal S2048x6688 .f32) : FVec Ideal S2048x4608 .f32 :=
  concatenate S2048x4608 1 [⟨S2048x4096, (extractStridedSlice S2048x4096 ![0, 2584] W slices_S2048x6688_S2048x4096_0_2584)⟩, ⟨S2048x12, (extractStridedSlice S2048x12 ![0, 2560] W slices_S2048x6688_S2048x12_0_2560)⟩, ⟨S2048x116, zeros⟩, ⟨S2048x12, (extractStridedSlice S2048x12 ![0, 2572] W slices_S2048x6688_S2048x12_0_2572)⟩,
    ⟨S2048x116, zeros⟩, ⟨S2048x8, (extractStridedSlice S2048x8 ![0, 6680] W slices_S2048x6688_S2048x8_0_6680)⟩, ⟨S2048x248, zeros'⟩] concatenates_S2048x4096_S2048x12_S2048x116_S2048x12_S2048x116_S2048x8_S2048x248_S2048x4608_d1

theorem weight_eq (c : Dev nD) : (V m c main_v10 : Vec Ideal S2048x4608 .bf16)
    = truncf .bf16 (weight (shapeCast S2048x6688 (m ((c.tc : Thread nD τ).loc main_arg2) : Vec Ideal S1x2048x6688 .f32) shapeCasts_S1x2048x6688_S2048x6688)) bitsLt_bf16_f32 := by
  unfold V weight zeros zeros'
  after_results <;> rfl

theorem zeros_at (k : Fin 2048) (l : Fin 116) : zeros (ix2 k l) = 0 := by
  pointwise [zeros]

theorem zeros'_at (k : Fin 2048) (l : Fin 248) : zeros' (ix2 k l) = 0 := by
  pointwise [zeros']

theorem slice0_at (W : FVec Ideal S1x2048x6688 .f32) (k : Fin 2048) (l : Fin 4096) :
    extractStridedSlice S2048x4096 ![0, 2584] (shapeCast S2048x6688 W shapeCasts_S1x2048x6688_S2048x6688 : FVec Ideal S2048x6688 .f32) slices_S2048x6688_S2048x4096_0_2584 (ix2 k l)
      = W (ix3 0 k ⟨2584 + l.val, by omega⟩) := by
  pointwise []

theorem slice1_at (W : FVec Ideal S1x2048x6688 .f32) (k : Fin 2048) (l : Fin 12) :
    extractStridedSlice S2048x12 ![0, 2560] (shapeCast S2048x6688 W shapeCasts_S1x2048x6688_S2048x6688 : FVec Ideal S2048x6688 .f32) slices_S2048x6688_S2048x12_0_2560 (ix2 k l)
      = W (ix3 0 k ⟨2560 + l.val, by omega⟩) := by
  pointwise []

theorem slice2_at (W : FVec Ideal S1x2048x6688 .f32) (k : Fin 2048) (l : Fin 12) :
    extractStridedSlice S2048x12 ![0, 2572] (shapeCast S2048x6688 W shapeCasts_S1x2048x6688_S2048x6688 : FVec Ideal S2048x6688 .f32) slices_S2048x6688_S2048x12_0_2572 (ix2 k l)
      = W (ix3 0 k ⟨2572 + l.val, by omega⟩) := by
  pointwise []

theorem slice3_at (W : FVec Ideal S1x2048x6688 .f32) (k : Fin 2048) (l : Fin 8) :
    extractStridedSlice S2048x8 ![0, 6680] (shapeCast S2048x6688 W shapeCasts_S1x2048x6688_S2048x6688 : FVec Ideal S2048x6688 .f32) slices_S2048x6688_S2048x8_0_6680 (ix2 k l)
      = W (ix3 0 k ⟨6680 + l.val, by omega⟩) := by
  pointwise []

theorem weight_at (W : FVec Ideal S1x2048x6688 .f32) (k : Fin 2048) (l : Fin 4608) :
    (truncf .bf16 (weight (shapeCast S2048x6688 W shapeCasts_S1x2048x6688_S2048x6688)) bitsLt_bf16_f32 : FVec Ideal S2048x4608 .bf16) (ix2 k l)
      = Cert.InprojBRefIdeal.Rows.pick (fun j => W (ix3 0 k j)) l := by
  have e : (truncf .bf16 (weight (shapeCast S2048x6688 W shapeCasts_S1x2048x6688_S2048x6688)) bitsLt_bf16_f32 : FVec Ideal S2048x4608 .bf16) (ix2 k l)
      = weight (shapeCast S2048x6688 W shapeCasts_S1x2048x6688_S2048x6688) (ix2 k l) := by pointwise []
  rw [e, weight, cat_at]
  simp only [zeros_at, zeros'_at, slice0_at, slice1_at, slice2_at, slice3_at]
  unfold Cert.InprojBRefIdeal.Rows.pick
  refine dite_congr rfl (fun h => rfl) fun h => ?_
  refine dite_congr rfl (fun h => rfl) fun h => ?_
  refine dite_congr rfl (fun h => rfl) fun h => ?_
  refine dite_congr rfl (fun h => rfl) fun h => ?_
  refine dite_congr rfl (fun h => rfl) fun h => ?_
  exact dite_congr rfl (fun h => rfl) fun h => rfl

theorem in2 (c : Dev nD) (t : Fin cfg0.N) (k : Fin 2048) (l : Fin 1536) :
    (iblk m c 2 t : Vec Ideal S2048x1536 .bf16) (ix2 k l)
      = Cert.InprojBRefIdeal.Rows.pick (fun j => (m ((c.tc : Thread nD τ).loc main_arg2) : Vec Ideal S1x2048x6688 .f32) (ix3 0 k j))
          ⟨t.val % 3 * 1536 + l.val, by omega⟩ := by
  have e : (iblk m c 2 t : Vec Ideal S2048x1536 .bf16) (ix2 k l) = (V m c main_v10 : Vec Ideal S2048x4608 .bf16) (ix2 k ⟨t.val % 3 * 1536 + l.val, by omega⟩) := by
    blk_point [iblk, idx0 t]
  rw [e, weight_eq, weight_at]

/-- The kernel's row of factors: ones. -/
def ones : FVec Ideal S1x4608 .f32 := broadcastInDim S1x4608 ![] bcast_S_S1x4608 (constant S_ .f32 0x3F800000#32 : FVec Ideal S_ .f32)

theorem ones_eq (c : Dev nD) : (V m c main_v11 : Vec Ideal S1x4608 .f32) = ones := by
  unfold V ones
  after_results <;> rfl

theorem ones_at (l : Fin 4608) : ones (ix2 0 l) = (1 : EReal) := by
  pointwise [ones]

theorem in3 (c : Dev nD) (t : Fin cfg0.N) (l : Fin 1536) :
    (show EReal from (iblk m c 3 t : Vec Ideal S1x1536 .f32) (ix2 0 l)) = (1 : EReal) := by
  have e : (iblk m c 3 t : Vec Ideal S1x1536 .f32) (ix2 0 l) = (V m c main_v11 : Vec Ideal S1x4608 .f32) (ix2 0 ⟨t.val % 3 * 1536 + l.val, by omega⟩) := by
    blk_point [iblk, idx0 t]
  exact e.trans ((congrFun (ones_eq m c) _).trans (ones_at _))

/-- The block a point writes, as rows of the reference. -/
theorem point (c : Dev nD) (t : Fin cfg0.N) (r : Fin 512) (l : Fin 1536) :
    (outsAt0 m c t.val t.isLt).1 (ix2 r l)
      = Cert.InprojBRefIdeal.Rows.ref (m ((c.tc : Thread nD τ).loc main_arg0)) (m ((c.tc : Thread nD τ).loc main_arg1))
          (m ((c.tc : Thread nD τ).loc main_arg2))
          (ix2 ⟨t.val / 3 * 512 + r.val, by have := lt_of_lt_of_eq t.isLt N_0; omega⟩ ⟨t.val % 3 * 1536 + l.val, by omega⟩) := by
  rw [out_at m c t, pay2_at, Cert.InprojBRefIdeal.Rows.ref_at]
  simp only [Cert.InprojBRefIdeal.Rows.cols_at]
  rw [← Cert.InprojBRefIdeal.Rows.pick_sum]
  refine (congrArg (fun a : EReal => _ * a) (in3 m c t l)).trans ?_
  refine (mul_one (M := EReal) _).trans (Finset.sum_congr rfl fun k _ => ?_)
  exact congrArg₂ (fun a b : EReal => a * b) (rows_at m c t r k) (in2 m c t k l)

theorem final (c : Dev nD) : (dats m 0 c).arrAt 4 (cfgs 0).N
    = Cert.InprojBRefIdeal.Rows.ref (m ((c.tc : Thread nD τ).loc main_arg0)) (m ((c.tc : Thread nD τ).loc main_arg1))
          (m ((c.tc : Thread nD τ).loc main_arg2)) := by
  refine (dats m 0 c).arrAt_eq_of_covers 4 _ (by decide +kernel) fun t hf y => ?_
  blk_simp
  rw [after0_4]
  idx_vars y
  rw [point m c t]
  congr 1
  blk_ext [idx0 t]

/-- The kernel's run: the result array is the reference function of the three arguments, which stay as they were. -/
theorem run (g : Dev nD → PrngReg) :
    θ_run defs (onTc (τ := τ) (main (F := Ideal))) ⟨m, fun _ => 0, g⟩ fun r => ∀ c : Dev nD,
      r.2.mem ((c : Thread nD τ).loc main_v13)
        = Cert.InprojBRefIdeal.Rows.ref (m ((c.tc : Thread nD τ).loc main_arg0)) (m ((c.tc : Thread nD τ).loc main_arg1))
          (m ((c.tc : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.InprojBIdeal.Value.run_blocks m g)

theorem algebraic : Cert.algebraic_InprojBIdeal_InprojBRefIdeal := by
  intro m g m' g' _ hagree
  refine ⟨fun c => Cert.InprojBRefIdeal.Rows.ref (m ((c.tc : Thread nD τ).loc main_arg0)) (m ((c.tc : Thread nD τ).loc main_arg1))
          (m ((c.tc : Thread nD τ).loc main_arg2)), run m g, ?_⟩
  refine (θ_run Cert.InprojBRefIdeal.defs _ _).mono (fun _ h c => ⟨(h c).1.trans ?_, (h c).2⟩)
    (Cert.InprojBRefIdeal.Value.run (F := Ideal) m' g')
  obtain ⟨e0, e1, e2⟩ := hagree c
  dsimp only
  rw [← e0, ← e1, ← e2]
  unfold Cert.InprojBRefIdeal.Rows.ref Cert.InprojBRefIdeal.Rows.cols Cert.InprojBRefIdeal.Rows.norm Cert.InprojBRefIdeal.Rows.gates Cert.InprojBRefIdeal.Rows.rates
  rfl

end Cert.InprojBIdeal.Rows

end
-- ==== Proof.Proj.Outproj.lean ====
module

public import proofs.«01_k».proof.Defs
public import proofs.«01_k».proof.Proof.Gen.OutprojIdeal.Value
public import proofs.«01_k».proof.Proof.Gen.OutprojRefIdeal.Run
public import Idealize.ShloMosaic.Lib.Pipeline.ValueKit
public import Idealize.ShloMosaic.Lib.Pointwise

/-!
The out-projection: the kernel adds two products of half the width each, the reference one product of the joined rows.
-/

@[expose] public section

set_option maxRecDepth 16384

noncomputable section

open Idealize.ShloMosaic Idealize.ShloMosaic.TcCoe Idealize.SL.Sem
open Idealize.ShloMosaic.Pipeline (Dat)

namespace Cert.OutprojRefIdeal.Rows

open Cert.OutprojRefIdeal Cert.OutprojRefIdeal.Gen

/-- The reference as one function of its four arguments. -/
def ref (X : FVec Ideal S32768x2048 .f32) (A M : FVec Ideal S32768x1024 .bf16) (W : FVec Ideal S1x2048x2048 .f32) : FVec Ideal S32768x2048 .f32 :=
  addf X (Host.dotGeneral dot_S32768x2048_S2048x2048_S32768x2048_1_0_0_1_n_n none (concatenate S32768x2048 1 [⟨S32768x1024, (extf .f32 A bitsLt_bf16_f32)⟩, ⟨S32768x1024, (extf .f32 M bitsLt_bf16_f32)⟩] concatenates_S32768x1024_S32768x1024_S32768x2048_d1) (shapeCast _ W shapeCasts_S1x2048x2048_S2048x2048))

theorem ref_at (X : FVec Ideal S32768x2048 .f32) (A M : FVec Ideal S32768x1024 .bf16) (W : FVec Ideal S1x2048x2048 .f32)
    (r : Fin 32768) (l : Fin 2048) :
    ref X A M W (ix2 r l) = X (ix2 r l) + ∑ k : Fin 1024, A (ix2 r k) * W (ix3 0 ⟨k.val, by omega⟩ l)
      + ∑ k : Fin 1024, M (ix2 r k) * W (ix3 0 ⟨1024 + k.val, by omega⟩ l) := by
  pointwise [ref]
  rw [add_assoc]

end Cert.OutprojRefIdeal.Rows

namespace Cert.OutprojIdeal.Rows

open Cert.OutprojIdeal Cert.OutprojIdeal.Gen

theorem pay1_at (x : Vec Ideal S512x2048 .f32) (a : Vec Ideal S512x1024 .bf16) (wa : Vec Ideal S1024x2048 .bf16)
    (b : Vec Ideal S512x1024 .bf16) (wb : Vec Ideal S1024x2048 .bf16) (r : Fin 512) (l : Fin 2048) :
    k0_pay1 (F := Ideal) x a wa b wb (ix2 r l) = x (ix2 r l) + ∑ k : Fin 1024, a (ix2 r k) * wa (ix2 k l)
      + ∑ k : Fin 1024, b (ix2 r k) * wb (ix2 k l) := by
  pointwise [k0_pay1]

theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ)

theorem in0 (c : Dev nD) (t : Fin cfg0.N) (r : Fin 512) (k : Fin 2048) :
    (iblk m c 0 t : Vec Ideal S512x2048 .f32) (ix2 r k)
      = (m ((c.tc : Thread nD τ).loc main_arg0) : Vec Ideal S32768x2048 .f32) (ix2 ⟨t.val * 512 + r.val, by have := lt_of_lt_of_eq t.isLt N_0; omega⟩ k) := by
  blk_point [iblk, V, idx0 t]

theorem in1 (c : Dev nD) (t : Fin cfg0.N) (r : Fin 512) (k : Fin 1024) :
    (iblk m c 1 t : Vec Ideal S512x1024 .bf16) (ix2 r k)
      = (m ((c.tc : Thread nD τ).loc main_arg1) : Vec Ideal S32768x1024 .bf16) (ix2 ⟨t.val * 512 + r.val, by have := lt_of_lt_of_eq t.isLt N_0; omega⟩ k) := by
  blk_point [iblk, V, idx0 t]

theorem in2 (c : Dev nD) (t : Fin cfg0.N) (r : Fin 512) (k : Fin 1024) :
    (iblk m c 2 t : Vec Ideal S512x1024 .bf16) (ix2 r k)
      = (m ((c.tc : Thread nD τ).loc main_arg2) : Vec Ideal S32768x1024 .bf16) (ix2 ⟨t.val * 512 + r.val, by have := lt_of_lt_of_eq t.isLt N_0; omega⟩ k) := by
  blk_point [iblk, V, idx0 t]

theorem in3 (c : Dev nD) (t : Fin cfg0.N) (k : Fin 1024) (l : Fin 2048) :
    (iblk m c 3 t : Vec Ideal S1024x2048 .bf16) (ix2 k l)
      = (m ((c.tc : Thread nD τ).loc main_arg3) : Vec Ideal S1x2048x2048 .f32) (ix3 0 ⟨k.val, by omega⟩ l) := by
  blk_point [iblk, V, idx0 t]

theorem in4 (c : Dev nD) (t : Fin cfg0.N) (k : Fin 1024) (l : Fin 2048) :
    (iblk m c 4 t : Vec Ideal S1024x2048 .bf16) (ix2 k l)
      = (m ((c.tc : Thread nD τ).loc main_arg3) : Vec Ideal S1x2048x2048 .f32) (ix3 0 ⟨1024 + k.val, by omega⟩ l) := by
  blk_point [iblk, V, idx0 t]

/-- The block a point writes, as rows of the reference. -/
theorem point (c : Dev nD) (t : Fin cfg0.N) (r : Fin 512) (l : Fin 2048) :
    k0_pay1 (F := Ideal) (iblk m c 0 t) (iblk m c 1 t) (iblk m c 3 t) (iblk m c 2 t) (iblk m c 4 t) (ix2 r l)
      = Cert.OutprojRefIdeal.Rows.ref (m ((c.tc : Thread nD τ).loc main_arg0)) (m ((c.tc : Thread nD τ).loc main_arg1))
          (m ((c.tc : Thread nD τ).loc main_arg2)) (m ((c.tc : Thread nD τ).loc main_arg3))
          (ix2 ⟨t.val * 512 + r.val, by have := lt_of_lt_of_eq t.isLt N_0; omega⟩ l) := by
  rw [pay1_at, Cert.OutprojRefIdeal.Rows.ref_at]
  refine congrArg₂ (fun a b : EReal => a + b) (congrArg₂ (fun a b : EReal => a + b) (in0 m c t r l) ?_) ?_
  · exact Finset.sum_congr rfl fun k _ => congrArg₂ (fun a b : EReal => a * b) (in1 m c t r k) (in3 m c t k l)
  · exact Finset.sum_congr rfl fun k _ => congrArg₂ (fun a b : EReal => a * b) (in2 m c t r k) (in4 m c t k l)

theorem final (c : Dev nD) : (dats m 0 c).arrAt 5 (cfgs 0).N
    = Cert.OutprojRefIdeal.Rows.ref (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  frame_out
  rw [point m c t]
  congr 1
  blk_ext [idx0 t]

/-- The kernel's run: the result array is the reference function of the four arguments, which stay as they were. -/
theorem run (g : Dev nD → PrngReg) :
    θ_run defs (onTc (τ := τ) (main (F := Ideal))) ⟨m, fun _ => 0, g⟩ fun r => ∀ c : Dev nD,
      r.2.mem ((c : Thread nD τ).loc main_v4)
        = Cert.OutprojRefIdeal.Rows.ref (m ((c.tc : Thread nD τ).loc main_arg0)) (m ((c.tc : Thread nD τ).loc main_arg1))
          (m ((c.tc : Thread nD τ).loc main_arg2)) (m ((c.tc : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.OutprojIdeal.Value.run_blocks m g)

theorem algebraic : Cert.algebraic_OutprojIdeal_OutprojRefIdeal := by
  intro m g m' g' _ hagree
  refine ⟨fun c => Cert.OutprojRefIdeal.Rows.ref (m ((c.tc : Thread nD τ).loc main_arg0)) (m ((c.tc : Thread nD τ).loc main_arg1))
          (m ((c.tc : Thread nD τ).loc main_arg2)) (m ((c.tc : Thread nD τ).loc main_arg3)), run m g, ?_⟩
  refine (θ_run Cert.OutprojRefIdeal.defs _ _).mono (fun _ h c => ⟨(h c).1.trans ?_, (h c).2⟩)
    (Cert.OutprojRefIdeal.Value.run (F := Ideal) m' g')
  obtain ⟨e0, e1, e2, e3⟩ := hagree c
  dsimp only
  rw [← e0, ← e1, ← e2, ← e3]
  unfold Cert.OutprojRefIdeal.Rows.ref
  rfl

end Cert.OutprojIdeal.Rows

end
-- ==== Proof.lean ====
module

public import proofs.«01_k».proof.Proof.Frames
public import proofs.«01_k».proof.Proof.Frames2
public import proofs.«01_k».proof.Proof.Cmp.Claims
public import proofs.«01_k».proof.Proof.Mlp.Claims
public import proofs.«01_k».proof.Proof.Proj.InprojA
public import proofs.«01_k».proof.Proof.Proj.InprojB
public import proofs.«01_k».proof.Proof.Proj.Outproj
public import Idealize.ShloMosaic.Adequacy
public import Idealize.ShloMosaic.Init

@[expose] public section

noncomputable section

namespace Cert.Proof

open Idealize.ShloMosaic Idealize.SL.Sem Cert.Mlstm

theorem claim : Cert.Claim :=
  ⟨Cert.Mlstm.Gen.facts, Cert.MlstmIdeal.Gen.facts, Cert.MlstmRefIdeal.Gen.facts,
    Cert.Mlp.Gen.facts, Cert.MlpIdeal.Gen.facts, Cert.MlpRefIdeal.Gen.facts,
    Cert.InprojA.Gen.facts, Cert.InprojAIdeal.Gen.facts, Cert.InprojARefIdeal.Gen.facts,
    Cert.InprojB.Gen.facts, Cert.InprojBIdeal.Gen.facts, Cert.InprojBRefIdeal.Gen.facts,
    Cert.Outproj.Gen.facts, Cert.OutprojIdeal.Gen.facts, Cert.OutprojRefIdeal.Gen.facts,
    Cert.Compress.Gen.facts, Cert.CompressIdeal.Gen.facts, Cert.CompressRefIdeal.Gen.facts, Cert.Pre_finite.Gen.facts,
    frame_mlstm, frame_mlstm_ideal, frame_mlstm_ref,
    frame_mlp, frame_mlp_ideal, frame_mlp_ref,
    frame_inproj_a, frame_inproj_a_ideal, frame_inproj_a_ref,
    frame_inproj_b, frame_inproj_b_ideal, frame_inproj_b_ref,
    frame_outproj, frame_outproj_ideal, frame_outproj_ref,
    frame_compress, frame_compress_ideal, frame_compress_ideal_finite, frame_compress_ref, frame_compress_ref_finite,
    preserves_mlstm, trivial, Cert.MlpIdeal.Rows.algebraic,
    trivial, Cert.InprojAIdeal.Rows.algebraic, trivial,
    Cert.InprojBIdeal.Rows.algebraic, trivial, Cert.OutprojIdeal.Rows.algebraic,
    trivial, Cert.CompressIdeal.Rows.algebraic⟩

end Cert.Proof

end
